-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![16384, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![16384, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S10x1024x256 : Shape := ⟨3, ![10, 1024, 256]⟩
abbrev S10 : Shape := ⟨1, ![10]⟩
abbrev S_ : Shape := ⟨0, ![]⟩
abbrev S1023x256 : Shape := ⟨2, ![1023, 256]⟩
abbrev S1x256 : Shape := ⟨2, ![1, 256]⟩
abbrev S1024x1 : Shape := ⟨2, ![1024, 1]⟩
abbrev S1022x256 : Shape := ⟨2, ![1022, 256]⟩
abbrev S2x256 : Shape := ⟨2, ![2, 256]⟩
abbrev S1020x256 : Shape := ⟨2, ![1020, 256]⟩
abbrev S4x256 : Shape := ⟨2, ![4, 256]⟩
abbrev S1016x256 : Shape := ⟨2, ![1016, 256]⟩
abbrev S8x256 : Shape := ⟨2, ![8, 256]⟩
abbrev S1008x256 : Shape := ⟨2, ![1008, 256]⟩
abbrev S16x256 : Shape := ⟨2, ![16, 256]⟩
abbrev S992x256 : Shape := ⟨2, ![992, 256]⟩
abbrev S32x256 : Shape := ⟨2, ![32, 256]⟩
abbrev S960x256 : Shape := ⟨2, ![960, 256]⟩
abbrev S64x256 : Shape := ⟨2, ![64, 256]⟩
abbrev S896x256 : Shape := ⟨2, ![896, 256]⟩
abbrev S128x256 : Shape := ⟨2, ![128, 256]⟩
abbrev S768x256 : Shape := ⟨2, ![768, 256]⟩
abbrev S256x256 : Shape := ⟨2, ![256, 256]⟩
abbrev S512x256 : Shape := ⟨2, ![512, 256]⟩
abbrev S1 : Shape := ⟨1, ![1]⟩
abbrev S1x1024x256 : Shape := ⟨3, ![1, 1024, 256]⟩

abbrev nBuf : Space → Nat
  | .hbm => 2
  | .vmem => 4
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S10x1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_334 : BitVec 32 := 1#32
  let v1616 : BitVec 32 := Scalar.xori v2 c1_i32_334
  let c1_i32_338 : BitVec 32 := 1#32
  let v1617 : BitVec 32 := Scalar.muli v1616 c1_i32_338
  let v1618 : BitVec 32 := Scalar.addi c0_i32_339 v1617
  v1618.toNat
def k0_dev6 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_429 : BitVec 32 := 2#32
  let v1944 : BitVec 32 := Scalar.xori v2 c2_i32_429
  let c1_i32_433 : BitVec 32 := 1#32
  let v1945 : BitVec 32 := Scalar.muli v1944 c1_i32_433
  let v1946 : BitVec 32 := Scalar.addi c0_i32_434 v1945
  v1946.toNat
def k0_dev7 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_462 : BitVec 32 := 1#32
  let v1979 : BitVec 32 := Scalar.xori v2 c1_i32_462
  let c1_i32_466 : BitVec 32 := 1#32
  let v1980 : BitVec 32 := Scalar.muli v1979 c1_i32_466
  let v1981 : BitVec 32 := Scalar.addi c0_i32_467 v1980
  v1981.toNat
def k0_dev8 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_556 : BitVec 32 := 4#32
  let v2307 : BitVec 32 := Scalar.xori v2 c4_i32_556
  let c1_i32_560 : BitVec 32 := 1#32
  let v2308 : BitVec 32 := Scalar.muli v2307 c1_i32_560
  let v2309 : BitVec 32 := Scalar.addi c0_i32_561 v2308
  v2309.toNat
def k0_dev9 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_589 : BitVec 32 := 2#32
  let v2342 : BitVec 32 := Scalar.xori v2 c2_i32_589
  let c1_i32_593 : BitVec 32 := 1#32
  let v2343 : BitVec 32 := Scalar.muli v2342 c1_i32_593
  let v2344 : BitVec 32 := Scalar.addi c0_i32_594 v2343
  v2344.toNat
def k0_dev10 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_622 : BitVec 32 := 1#32
  let v2377 : BitVec 32 := Scalar.xori v2 c1_i32_622
  let c1_i32_626 : BitVec 32 := 1#32
  let v2378 : BitVec 32 := Scalar.muli v2377 c1_i32_626
  let v2379 : BitVec 32 := Scalar.addi c0_i32_627 v2378
  v2379.toNat
def k0_dev11 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_716 : BitVec 32 := 8#32
  let v2705 : BitVec 32 := Scalar.xori v2 c8_i32_716
  let c1_i32_720 : BitVec 32 := 1#32
  let v2706 : BitVec 32 := Scalar.muli v2705 c1_i32_720
  let v2707 : BitVec 32 := Scalar.addi c0_i32_721 v2706
  v2707.toNat
def k0_dev12 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_749 : BitVec 32 := 4#32
  let v2740 : BitVec 32 := Scalar.xori v2 c4_i32_749
  let c1_i32_753 : BitVec 32 := 1#32
  let v2741 : BitVec 32 := Scalar.muli v2740 c1_i32_753
  let v2742 : BitVec 32 := Scalar.addi c0_i32_754 v2741
  v2742.toNat
def k0_dev13 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_782 : BitVec 32 := 2#32
  let v2775 : BitVec 32 := Scalar.xori v2 c2_i32_782
  let c1_i32_786 : BitVec 32 := 1#32
  let v2776 : BitVec 32 := Scalar.muli v2775 c1_i32_786
  let v2777 : BitVec 32 := Scalar.addi c0_i32_787 v2776
  v2777.toNat
def k0_dev14 (d0 : Dev nD) : Nat :=
  let c0_i32_820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_815 : BitVec 32 := 1#32
  let v2810 : BitVec 32 := Scalar.xori v2 c1_i32_815
  let c1_i32_819 : BitVec 32 := 1#32
  let v2811 : BitVec 32 := Scalar.muli v2810 c1_i32_819
  let v2812 : BitVec 32 := Scalar.addi c0_i32_820 v2811
  v2812.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x256 : Shape := ⟨2, ![16384, 256]⟩

abbrev nBuf : Space → Nat
  | .hbm => 2
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Pass.lean ====
/-
The compare-exchange passes of the kernel as functions of a block: the sequence of register operations that the
kernel's text repeats for every distance, named once with the distance and the stage as parameters.
-/
module

public import Idealize.ShloMosaic.Lib.Pipeline.Kit
public import Idealize.ShloMosaic.Lib.Tactic

@[expose] public section

noncomputable section

namespace Cert.Bitonic

open Idealize.ShloMosaic Idealize.SL.Sem

variable {F : FTy → Type} [FloatOps F]

/-- The shape of a device's block. -/
abbrev Blk : Shape := ⟨2, ![1024, 256]⟩
/-- The shape of one column of row numbers. -/
abbrev Idc : Shape := ⟨2, ![1024, 1]⟩
/-- The first `n` rows of a block. -/
abbrev Rows (n : ℕ) : Shape := ⟨2, ![n, 256]⟩

theorem slices_rows (o n : ℕ) (h : o + n ≤ 1024) : Blk.Slices ![o, 0] (Rows n) := by
  refine ⟨rfl, fun a => ?_⟩
  fin_cases a
  · exact h
  · exact le_refl _

theorem concat_rows (m n : ℕ) (h : m + n = 1024) : Shape.Concatenates [Rows m, Rows n] Blk 0 := by
  refine ⟨le_refl _, fun s hs => ?_, ?_⟩
  · rcases List.mem_cons.mp hs with rfl | hs
    · exact ⟨rfl, fun b hb => by fin_cases b; exacts [absurd rfl hb, rfl]⟩
    · rcases List.mem_cons.mp hs with rfl | hs
      · exact ⟨rfl, fun b hb => by fin_cases b; exacts [absurd rfl hb, rfl]⟩
      · exact absurd hs List.not_mem_nil
  · show m + (n + 0) = 1024
    omega

theorem casts_blk : Blk.ShapeCasts Blk := by decide
theorem casts_idc : Idc.ShapeCasts Idc := by decide
theorem bcast_idc : Idc.Broadcasts Blk := by decide
theorem iota_idc : Idc.Iotas .tc 32 [0] := by decide

theorem two_pow_lt {j : ℕ} (h : j < 10) : 2 ^ j < 1024 := by
  calc 2 ^ j < 2 ^ 10 := Nat.pow_lt_pow_right (by decide) h
    _ = 1024 := rfl

/-- The rows moved up by `d`: row `i` of the result is row `i + d`, cyclically. -/
def upBy (d : ℕ) (h : d < 1024) (v : FVec F Blk .f32) : FVec F Blk .f32 :=
  concatenate Blk 0 [⟨Rows (1024 - d), extractStridedSlice (Rows (1024 - d)) ![d, 0] v (slices_rows _ _ (by omega))⟩,
    ⟨Rows d, extractStridedSlice (Rows d) ![0, 0] v (slices_rows _ _ (by omega))⟩] (concat_rows _ _ (by omega))

/-- The rows moved down by `d`: row `i` of the result is row `i - d`, cyclically. -/
def downBy (d : ℕ) (h : d < 1024) (v : FVec F Blk .f32) : FVec F Blk .f32 :=
  concatenate Blk 0 [⟨Rows d, extractStridedSlice (Rows d) ![1024 - d, 0] v (slices_rows _ _ (by omega))⟩,
    ⟨Rows (1024 - d), extractStridedSlice (Rows (1024 - d)) ![0, 0] v (slices_rows _ _ (by omega))⟩] (concat_rows _ _ (by omega))

/-- The row numbers of the block. -/
def rowIx : IVec Idc 32 := iota .tc Idc 32 [0] iota_idc

/-- Which rows have the bit `d`. -/
def highBit (d : BitVec 32) : IVec Idc 1 := cmpi .ne (andi rowIx (broadcast Idc d)) (broadcast Idc 0#32)

/-- Which rows' global number has bit `s` clear, on the device with logical number `my`. -/
def ascBit (s : BitVec 32) (my : BitVec 32) : IVec Idc 1 :=
  cmpi .eq (andi (shrsi (addi (broadcast Idc (Scalar.muli my 1024#32)) rowIx) (broadcast Idc s)) (broadcast Idc 1#32)) (broadcast Idc 0#32)

/-- One compare-exchange pass at distance `2 ^ j` within a block, in stage `s`, on the device with logical number `my`. -/
def ce (my : BitVec 32) (s : ℕ) (j : ℕ) (h : j < 10) (v : FVec F Blk .f32) : FVec F Blk .f32 :=
  let q := select (broadcastTo Blk (shapeCast Idc (highBit (BitVec.ofNat 32 (2 ^ j))) casts_idc) bcast_idc)
    (downBy (2 ^ j) (two_pow_lt h) v) (upBy (2 ^ j) (two_pow_lt h) v)
  select (broadcastTo Blk (shapeCast Idc (xori (ascBit (BitVec.ofNat 32 s) my) (highBit (BitVec.ofNat 32 (2 ^ j)))) casts_idc) bcast_idc)
    (minimumf v q) (maximumf v q)

/-- The passes at distances `2 ^ (n - 1)`, …, `2`, `1` of stage `s`, in this order. -/
def passes (my : BitVec 32) (s : ℕ) : (n : ℕ) → n ≤ 10 → FVec F Blk .f32 → FVec F Blk .f32
  | 0, _, v => v
  | n + 1, h, v => passes my s n (Nat.le_of_succ_le h) (ce my s n h v)

/-- The stages `1`, …, `n`, each with all its passes: the sort of a block. -/
def stages (my : BitVec 32) : (n : ℕ) → n ≤ 10 → FVec F Blk .f32 → FVec F Blk .f32
  | 0, _, v => v
  | n + 1, h, v => passes my (n + 1) (n + 1) h (stages my n (Nat.le_of_succ_le h) v)

/-- What an exchange makes of the block held and the block received: the smaller or the larger of the two, by the bit
    `d` of the device's logical number and the bit `t` of it. -/
def merge (my d t : BitVec 32) (a b : FVec F Blk .f32) : FVec F Blk .f32 :=
  Scalar.select (Scalar.xori (Scalar.xori (Scalar.cmpi .eq (Scalar.andi my d) 0#32)
      (Scalar.cmpi .eq (Scalar.andi (Scalar.shrsi my t) 1#32) 0#32)) 1#1) (minimumf a b) (maximumf a b)

end Cert.Bitonic

end
-- ==== Proof.CompactIdeal.lean ====
/-
The kernel's body in a short form: the barrier handshake, the sort of the device's own block, ten exchanges each followed
by a merge, the local merges of the last four stages. `body_eq` says that the printed body is this program.
-/
module

public import proofs.«01_k».proof.Proof.Pass
public import proofs.«01_k».proof.Proof.Gen.KernelIdeal
public import Idealize.ShloMosaic.Lib.Pipeline.Regions

@[expose] public section

noncomputable section

namespace Cert.KernelIdeal.Sort

open Cert.KernelIdeal Cert.KernelIdeal.Gen Cert.Bitonic
open Idealize.ShloMosaic Idealize.ShloMosaic.TcCoe Idealize.SL.Sem

variable {F : FTy → Type} [FloatOps F]

abbrev PG (F : FTy → Type) := Prog (TpuEff nD τ sig (Elt F) Λ₀ .tc)

theorem inb_slot (k : Fin 10) : ∀ a, (![k.val, 0, 0] : Fin 3 → Nat) a + S1x1024x256.size a ≤ S10x1024x256.size a := by
  revert k; decide
theorem inb_sem (k : Fin 10) : ∀ a, (![k.val] : Fin 1 → Nat) a + S1.size a ≤ S10.size a := by
  revert k; decide

/-- Slot `k` of a landing buffer of ten blocks. -/
abbrev slot (arg3 : Memref sig .tc .vmem S10x1024x256 .f32) (k : Fin 10) : Memref sig .tc .vmem S1024x256 .f32 :=
  (arg3.slice (Rect.unit (s := S10x1024x256) ![k.val, 0, 0] S1x1024x256.size (inb_slot k)) (fun _ => rfl)).squeeze S1024x256 squeezes_S1x1024x256_S1024x256
/-- Semaphore `k` of an array of ten. -/
abbrev semAt (a : DmaSems sig S10) (k : Fin 10) : DmaSem sig :=
  ((a.slice (Rect.unit (s := S10) ![k.val] S1.size (inb_sem k))).squeeze S_ squeezes_S1_S_).sem

abbrev whole0 : Rect S1024x256 := Rect.unit (s := S1024x256) ![0, 0] S1024x256.size inb_S1024x256_S1024x256_0_0

/-- Store a block, after the load of the old contents that the text has before each store. -/
def put (arg : Memref sig .tc .vmem S1024x256 .f32) (v : FVec F S1024x256 .f32) : PG F PUnit := do
  let _ : Vec F S1024x256 .f32 ← Prog.lift (.load arg whole0.toLoadRect (View.loadsAt_vmem h_S1024x256))
  Prog.lift (.store arg whole0 v Finset.univ (View.stores_vmem_bits_univ h_S1024x256 rfl) (.inl rfl))

/-- Exchange `k`: send the block held to the device `p` and receive its block into slot `k`; wait for both; keep the
    smaller or the larger of the two. -/
def exch (arg2 : Memref sig .tc .vmem S1024x256 .f32) (harg2 : arg2.IsWhole) (arg3 : Memref sig .tc .vmem S10x1024x256 .f32)
    (arg4 arg5 : DmaSems sig S10) (k : Fin 10) (p : Dev nD) (my d t : BitVec 32) : PG F (FVec F S1024x256 .f32) := do
  Prog.lift (.enqueueDma arg2 (.remote (Dev.tc p) (slot arg3 k) (.dma (semAt arg4 k))) (.dma (semAt arg5 k)) harg2.wordExact ((View.wordExact_bits rfl).reshape _ _) ⟨⟨rfl, Or.inl rfl⟩, trivial⟩)
  Prog.lift (.waitDma2 (semAt arg4 k) (slot arg3 k) arg2 ((View.wordExact_bits rfl).reshape _ _) harg2.wordExact)
  Prog.lift (.waitDma2 (semAt arg5 k) arg2 (slot arg3 k) harg2.wordExact ((View.wordExact_bits rfl).reshape _ _))
  let a : Vec F S1024x256 .f32 ← Prog.lift (.load arg2 whole0.toLoadRect (View.loadsAt_vmem h_S1024x256))
  let b : Vec F S1x1024x256 .f32 ← Prog.lift (.load arg3 (Rect.unit (s := S10x1024x256) ![k.val, 0, 0] S1x1024x256.size (inb_slot k)).toLoadRect (View.loadsAt_vmem h_S1x1024x256))
  let v : FVec F S1024x256 .f32 := merge my d t a (shapeCast S1024x256 b shapeCasts_S1x1024x256_S1024x256)
  put arg2 (shapeCast S1024x256 v shapeCasts_S1024x256_S1024x256)
  pure v

/-- The ten local passes of stage `s`, and the store of their result. -/
def local10 (arg2 : Memref sig .tc .vmem S1024x256 .f32) (my : BitVec 32) (s : ℕ) (v : FVec F S1024x256 .f32) : PG F (FVec F S1024x256 .f32) := do
  let w : FVec F S1024x256 .f32 := passes my s 10 (le_refl _) v
  put arg2 (shapeCast S1024x256 w shapeCasts_S1024x256_S1024x256)
  pure w

def bodyC (arg0 : Memref sig .tc .vmem S1024x256 .f32) (arg1 : Memref sig .tc .vmem S1024x256 .f32)
    (arg2 : Memref sig .tc .vmem S1024x256 .f32) (harg2 : arg2.IsWhole) (arg3 : Memref sig .tc .vmem S10x1024x256 .f32)
    (arg4 arg5 : DmaSems sig S10) : PG F PUnit := do
  let d0 : Dev nD ← Prog.lift .deviceId
  let my : BitVec 32 := Scalar.remsi (Scalar.divsi (Dev.word d0) 1#32) 16#32
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semSignalWord (⟨k0_dev3 d0, k0_dev3_lt d0⟩ : Dev nD) (SemArray.scalar (sig.barrier 0 rfl) : Sems sig S_).sem 1#32
  semSignalWord (⟨k0_dev4 d0, k0_dev4_lt d0⟩ : Dev nD) (SemArray.scalar (sig.barrier 0 rfl) : Sems sig S_).sem 1#32
  semWaitWord (SemArray.scalar (sig.barrier 0 rfl) : Sems sig S_).sem 4#32
  let x : Vec F S1024x256 .f32 ← Prog.lift (.load arg0 whole0.toLoadRect (View.loadsAt_vmem h_S1024x256))
  put arg2 (shapeCast S1024x256 (stages my 10 (le_refl _) (shapeCast S1024x256 x shapeCasts_S1024x256_S1024x256)) shapeCasts_S1024x256_S1024x256)
  let v ← exch arg2 harg2 arg3 arg4 arg5 0 ⟨k0_dev5 d0, k0_dev5_lt d0⟩ my 1#32 1#32
  let _ ← local10 arg2 my 11 v
  let _ ← exch arg2 harg2 arg3 arg4 arg5 1 ⟨k0_dev6 d0, k0_dev6_lt d0⟩ my 2#32 2#32
  let v ← exch arg2 harg2 arg3 arg4 arg5 2 ⟨k0_dev7 d0, k0_dev7_lt d0⟩ my 1#32 2#32
  let _ ← local10 arg2 my 12 v
  let _ ← exch arg2 harg2 arg3 arg4 arg5 3 ⟨k0_dev8 d0, k0_dev8_lt d0⟩ my 4#32 3#32
  let _ ← exch arg2 harg2 arg3 arg4 arg5 4 ⟨k0_dev9 d0, k0_dev9_lt d0⟩ my 2#32 3#32
  let v ← exch arg2 harg2 arg3 arg4 arg5 5 ⟨k0_dev10 d0, k0_dev10_lt d0⟩ my 1#32 3#32
  let _ ← local10 arg2 my 13 v
  let _ ← exch arg2 harg2 arg3 arg4 arg5 6 ⟨k0_dev11 d0, k0_dev11_lt d0⟩ my 8#32 4#32
  let _ ← exch arg2 harg2 arg3 arg4 arg5 7 ⟨k0_dev12 d0, k0_dev12_lt d0⟩ my 4#32 4#32
  let _ ← exch arg2 harg2 arg3 arg4 arg5 8 ⟨k0_dev13 d0, k0_dev13_lt d0⟩ my 2#32 4#32
  let v ← exch arg2 harg2 arg3 arg4 arg5 9 ⟨k0_dev14 d0, k0_dev14_lt d0⟩ my 1#32 4#32
  let w ← local10 arg2 my 14 v
  put arg1 w

set_option maxRecDepth 65536 in
theorem body_eq (arg0 : Memref sig .tc .vmem S1024x256 .f32) (harg0 : arg0.IsWhole) (arg1 : Memref sig .tc .vmem S1024x256 .f32) (harg1 : arg1.IsWhole)
    (arg2 : Memref sig .tc .vmem S1024x256 .f32) (harg2 : arg2.IsWhole) (arg3 : Memref sig .tc .vmem S10x1024x256 .f32) (harg3 : arg3.IsWhole)
    (arg4 arg5 : DmaSems sig S10) :
    cc0_body (F := F) arg0 harg0 arg1 harg1 arg2 harg2 arg3 harg3 arg4 arg5 = bodyC arg0 arg1 arg2 harg2 arg3 arg4 arg5 := by
  chain_rfl

end Cert.KernelIdeal.Sort

end
-- ==== Proof.CellsIdeal.lean ====
/-
The cells of the exchange, what they hand over, and what each device owes at the start.

Every device has a barrier cell, ten send cells and ten receive cells. Partner `i` (the device whose number differs in
bit `i`) pays duty `i` of the barrier cell and hands over, with it, the landing slots of the exchanges made with it. A
send cell gives the sender its block back; a receive cell gives the receiver the slot with the partner's block in it.
-/
module

public import proofs.«01_k».proof.Proof.CompactIdeal
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Sort

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's rounds and the exchange's, duties named `Fin 4` -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Partners -/

/-- The device whose number differs from `c`'s in bit `i`. -/
def bp (i : Fin 4) (c : Dev nD) : Dev nD := ⟨c.val ^^^ 2 ^ i.val, by revert i c; decide⟩
theorem bp_bp (i : Fin 4) (c : Dev nD) : bp i (bp i c) = c := by revert i c; decide

/-- The bit in which exchange `k`'s partner differs. -/
def pidx : Fin 10 → Fin 4 := ![0, 1, 0, 2, 1, 0, 3, 2, 1, 0]
/-- Exchange `k`'s partner. -/
def pt (k : Fin 10) (c : Dev nD) : Dev nD := bp (pidx k) c
theorem pt_pt (k : Fin 10) (c : Dev nD) : pt k (pt k c) = c := bp_bp _ c

theorem dev1_eq (c : Dev nD) : (⟨k0_dev1 c, k0_dev1_lt c⟩ : Dev nD) = bp 0 c := by revert c; decide
theorem dev2_eq (c : Dev nD) : (⟨k0_dev2 c, k0_dev2_lt c⟩ : Dev nD) = bp 1 c := by revert c; decide
theorem dev3_eq (c : Dev nD) : (⟨k0_dev3 c, k0_dev3_lt c⟩ : Dev nD) = bp 2 c := by revert c; decide
theorem dev4_eq (c : Dev nD) : (⟨k0_dev4 c, k0_dev4_lt c⟩ : Dev nD) = bp 3 c := by revert c; decide
theorem dev5_eq (c : Dev nD) : (⟨k0_dev5 c, k0_dev5_lt c⟩ : Dev nD) = pt 0 c := by revert c; decide
theorem dev6_eq (c : Dev nD) : (⟨k0_dev6 c, k0_dev6_lt c⟩ : Dev nD) = pt 1 c := by revert c; decide
theorem dev7_eq (c : Dev nD) : (⟨k0_dev7 c, k0_dev7_lt c⟩ : Dev nD) = pt 2 c := by revert c; decide
theorem dev8_eq (c : Dev nD) : (⟨k0_dev8 c, k0_dev8_lt c⟩ : Dev nD) = pt 3 c := by revert c; decide
theorem dev9_eq (c : Dev nD) : (⟨k0_dev9 c, k0_dev9_lt c⟩ : Dev nD) = pt 4 c := by revert c; decide
theorem dev10_eq (c : Dev nD) : (⟨k0_dev10 c, k0_dev10_lt c⟩ : Dev nD) = pt 5 c := by revert c; decide
theorem dev11_eq (c : Dev nD) : (⟨k0_dev11 c, k0_dev11_lt c⟩ : Dev nD) = pt 6 c := by revert c; decide
theorem dev12_eq (c : Dev nD) : (⟨k0_dev12 c, k0_dev12_lt c⟩ : Dev nD) = pt 7 c := by revert c; decide
theorem dev13_eq (c : Dev nD) : (⟨k0_dev13 c, k0_dev13_lt c⟩ : Dev nD) = pt 8 c := by revert c; decide
theorem dev14_eq (c : Dev nD) : (⟨k0_dev14 c, k0_dev14_lt c⟩ : Dev nD) = pt 9 c := by revert c; decide

/-! ## Buffers and cells -/

abbrev xM : Memref sig .tc .vmem S1024x256 .f32 := Memref.whole cc0_stg0_0
abbrev oM : Memref sig .tc .vmem S1024x256 .f32 := Memref.whole cc0_stg1_0
abbrev curM : Memref sig .tc .vmem S1024x256 .f32 := Memref.whole cc0_scratch0
abbrev rcvM : Memref sig .tc .vmem S10x1024x256 .f32 := Memref.whole cc0_scratch1
abbrev slotM (k : Fin 10) : Memref sig .tc .vmem S1024x256 .f32 := slot rcvM k

abbrev barS : Sem sig := (SemArray.scalar (sig.barrier 0 rfl) : Sems sig S_).sem
abbrev sS (k : Fin 10) : DmaSem sig := semAt cc0_scratch2 k
abbrev rS (k : Fin 10) : DmaSem sig := semAt cc0_scratch3 k

/-- The cells of a device by name: the barrier; the send cells; the receive cells. -/
abbrev CI : Type := Unit ⊕ (Fin 10 ⊕ Fin 10)
abbrev iB : CI := .inl ()
abbrev iS (k : Fin 10) : CI := .inr (.inl k)
abbrev iR (k : Fin 10) : CI := .inr (.inr k)

/-- The kernel's own semaphores: the send and the receive ones; -/
def osem : Fin 10 ⊕ Fin 10 → SemLoc sig
  | .inl k => .dma (sS k)
  | .inr k => .dma (rS k)
/-- with the barrier: every semaphore of the protocol. -/
def csem : CI → SemLoc sig
  | .inl _ => .reg barS
  | .inr i => osem i
abbrev kcell (ck : Dev nD × CI) : GSem nD τ sig := ((ck.1 : Thread nD τ), csem ck.2)

/-- The name of a semaphore, if it is one of the protocol's. -/
def kindOf (s : SemLoc sig) : Option CI :=
  if s = .reg barS then some iB
  else match (List.finRange 10).find? fun k => decide (s = .dma (sS k)) with
    | some k => some (iS k)
    | none => match (List.finRange 10).find? fun k => decide (s = .dma (rS k)) with
      | some k => some (iR k)
      | none => none

theorem kindOf_bar : kindOf (.reg barS) = some iB := if_pos rfl
theorem kindOf_snd (k : Fin 10) : kindOf (.dma (sS k)) = some (iS k) := by revert k; decide
theorem kindOf_rcv (k : Fin 10) : kindOf (.dma (rS k)) = some (iR k) := by revert k; decide
theorem kindOf_csem (i : CI) : kindOf (csem i) = some i := by
  rcases i with u | k | k
  · exact kindOf_bar
  · exact kindOf_snd k
  · exact kindOf_rcv k

theorem csem_injective : Function.Injective csem := fun i j h => by
  have := congrArg kindOf h
  rw [kindOf_csem, kindOf_csem] at this
  exact Option.some.inj this

theorem kcell_injective : Function.Injective (kcell : Dev nD × CI → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

theorem ownSemFacts : Pipeline.OwnSemFacts cfg0.spec osem := by decide

/-- What a transfer of a block credits. -/
abbrev N : ℕ := (curM : Memref sig .tc .vmem S1024x256 .f32).view.dmaCredit
theorem N_pos : 0 < N := View.dmaCredit_pos _ (by decide)
theorem slot_credit (k : Fin 10) : (slotM k).view.dmaCredit = N := rfl

/-! ## Contents -/

/-- Device `c`'s logical number. -/
abbrev myW (c : Dev nD) : BitVec 32 := Scalar.remsi (Scalar.divsi (Dev.word c) 1#32) 16#32

/-- Device `c`'s block of the input. -/
def xstg (c : Dev nD) : (cc0_stg0_0 : Ref sig .tc).ty.Contents (Elt F) :=
  (win0_0.blk (0 : Fin 1)).view.read (Elt F) ((s₀ m ρ).mem ((c : Thread nD τ).loc main_arg0))

/-- A block on each device. -/
abbrev Blks (F : FTy → Type) [FloatOps F] : Type := Dev nD → FVec F S1024x256 .f32

def dK : Fin 10 → BitVec 32 := ![1#32, 2#32, 1#32, 4#32, 2#32, 1#32, 8#32, 4#32, 2#32, 1#32]
def tK : Fin 10 → BitVec 32 := ![1#32, 2#32, 2#32, 3#32, 3#32, 3#32, 4#32, 4#32, 4#32, 4#32]

/-- The blocks after exchange `k`, from those before it. -/
def mer (k : Fin 10) (v : Blks F) : Blks F := fun c => merge (myW c) (dK k) (tK k) (v c) (v (pt k c))
/-- The blocks after the ten local passes of stage `s`. -/
def loc (s : ℕ) (v : Blks F) : Blks F := fun c => passes (myW c) s 10 (le_refl _) (v c)
/-- The blocks after the local sort. -/
def ini (x : Blks F) : Blks F := fun c => stages (myW c) 10 (le_refl _) (x c)

/-- What follows exchange `k` locally: the ten passes of its stage if it is the stage's last exchange. -/
def post : ℕ → Blks F → Blks F
  | 0, v => loc 11 v
  | 2, v => loc 12 v
  | 5, v => loc 13 v
  | 9, v => loc 14 v
  | _, v => v

/-- The blocks held before exchange `n`, from the input's blocks `x`. -/
def held (x : Blks F) : ℕ → Blks F
  | 0 => ini x
  | n + 1 => if h : n < 10 then post n (mer ⟨n, h⟩ (held x n)) else held x n

/-- The blocks held before exchange `n` of this run; before exchange 10: the result. -/
abbrev E (n : ℕ) : Blks F := held (fun c => xstg m ρ c) n

def slotPts (c : Dev nD) (k : Fin 10) (f : Buf (Elt F) ((slotM k).view.loc (c : Thread nD τ))) : sProp 𝕄 :=
  (slotM k).view.loc (c : Thread nD τ) ↦[(slotM k).view.set]{fullShare} f
def curPts (c : Dev nD) (v : FVec F S1024x256 .f32) : sProp 𝕄 :=
  (curM : Memref sig .tc .vmem S1024x256 .f32).view.loc (c : Thread nD τ) ↦[(curM : Memref sig .tc .vmem S1024x256 .f32).view.set]{fullShare} v

omit [FloatOps F] in
instance slotPts_storable (c : Dev nD) (k) (f) : BI.Storable (upEmb : UEmb _ 𝕄) (slotPts (F := F) c k f) := by unfold slotPts; infer_instance
omit [FloatOps F] in
instance curPts_storable (c : Dev nD) (v) : BI.Storable (upEmb : UEmb _ 𝕄) (curPts (F := F) c v) := by unfold curPts; infer_instance

omit [FloatOps F] in
theorem cur_set : (curM : Memref sig .tc .vmem S1024x256 .f32).view.set = Finset.univ := View.set_whole _
omit [FloatOps F] in
theorem curPts_eq (c : Dev nD) (v : FVec F S1024x256 .f32) :
    curPts c v = (((c : Thread nD τ).loc cc0_scratch0) ↦{fullShare} v : sProp 𝕄) := by unfold curPts; rw [cur_set]

/-! ### The slots of the landing buffer -/

theorem slot_set (k : Fin 10) : (slotM k).view.set = (Rect.unit (s := S10x1024x256) ![k.val, 0, 0] S1x1024x256.size (inb_slot k)).set :=
  (View.set_reshape _ _).trans (View.set_slice_whole _ _)

theorem mem_slot_set (k : Fin 10) (y : S10x1024x256.Idx) : y ∈ (slotM k).view.set ↔ (y 0).val = k.val := by
  rw [slot_set, Rect.mem_set_unit]
  have h1 : (y 1).val < 1024 := (y 1).isLt
  have h2 : (y 2).val < 256 := (y 2).isLt
  constructor
  · intro H; have a0 : k.val ≤ (y 0).val ∧ (y 0).val < k.val + 1 := H 0; omega
  · intro H i; fin_cases i
    · show k.val ≤ (y 0).val ∧ (y 0).val < k.val + 1; omega
    · show 0 ≤ (y 1).val ∧ (y 1).val < 0 + 1024; omega
    · show 0 ≤ (y 2).val ∧ (y 2).val < 0 + 256; omega

theorem slot_disjoint (k k' : Fin 10) (h : k ≠ k') : Disjoint (slotM k).view.set (slotM k').view.set := by
  rw [Finset.disjoint_left]
  intro y h1 h2
  exact h (Fin.ext (((mem_slot_set k y).mp h1).symm.trans ((mem_slot_set k' y).mp h2)))

/-- The elements of slot `k`. -/
abbrev slotSet (k : Fin 10) : Finset S10x1024x256.Idx := (slotM k).view.set

theorem slot_cover : Finset.univ.biUnion slotSet = Finset.univ := by
  ext y
  simp only [Finset.mem_biUnion, Finset.mem_univ, true_and, iff_true]
  exact ⟨(⟨(y 0).val, (y 0).isLt⟩ : Fin 10), (mem_slot_set _ y).mpr rfl⟩

omit [FloatOps F] in
/-- The landing buffer held whole is held slot by slot; -/
theorem slots_split (c : Dev nD) (f : Buf (Elt F) ((c : Thread nD τ).loc cc0_scratch1)) :
    ((((c : Thread nD τ).loc cc0_scratch1) ↦{fullShare} f : sProp 𝕄)) = bigSep Finset.univ fun k : Fin 10 => slotPts c k f :=
  Ring.pointsTo_blocks (ℓ := (c : Thread nD τ).loc cc0_scratch1) slotSet slot_disjoint slot_cover f

omit [FloatOps F] in
/-- and slots held at some contents each are the buffer at some contents. -/
theorem slots_join [∀ e, Nonempty (Elt F e)] (c : Dev nD) :
    (bigSep Finset.univ fun k : Fin 10 => (iprop(∃ f, slotPts c k f) : sProp 𝕄))
      ⊢ (iprop(∃ f : Buf (Elt F) ((c : Thread nD τ).loc cc0_scratch1), ((c : Thread nD τ).loc cc0_scratch1) ↦{fullShare} f) : sProp 𝕄) :=
  Ring.pointsTo_blocks_join_exists (ℓ := (c : Thread nD τ).loc cc0_scratch1) slotSet slot_disjoint slot_cover
    (fun _ => Classical.choice inferInstance)

/-- The block in slot `k` of the contents `f`. -/
theorem slot_load (k : Fin 10) (f : (cc0_scratch1 : Ref sig .tc).ty.Contents (Elt F)) :
    shapeCast S1024x256 ((rcvM : Memref sig .tc .vmem S10x1024x256 .f32).view.readAt (Elt F)
        (Rect.unit (s := S10x1024x256) ![k.val, 0, 0] S1x1024x256.size (inb_slot k)).toLoadRect f : FVec F S1x1024x256 .f32)
      shapeCasts_S1x1024x256_S1024x256 = (slotM k).view.read (Elt F) f := rfl

theorem slot_read_back (k : Fin 10) (f : (cc0_scratch1 : Ref sig .tc).ty.Contents (Elt F)) (w : FVec F S1024x256 .f32) :
    shapeCast S1024x256 ((rcvM : Memref sig .tc .vmem S10x1024x256 .f32).view.readAt (Elt F)
        (Rect.unit (s := S10x1024x256) ![k.val, 0, 0] S1x1024x256.size (inb_slot k)).toLoadRect
        ((slotM k).view.write (Elt F) f w Finset.univ) : FVec F S1x1024x256 .f32)
      shapeCasts_S1x1024x256_S1024x256 = w := by
  rw [slot_load]
  exact View.read_write_univ _ _

end Cert.KernelIdeal.Sort

end
-- ==== Proof.ProtoIdeal.lean ====
/-
The protocol: the schedule of the cells, what a device owes at the start, the order of the waits, and one exchange.
-/
module

public import proofs.«01_k».proof.Proof.CellsIdeal

@[expose] public section

noncomputable section

namespace Cert.KernelIdeal.Sort

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- A slot of device `c` at some contents. -/
def slotAny (c : Dev nD) (k : Fin 10) : sProp 𝕄 := iprop(∃ f, slotPts c k f)

/-- The slots of the exchanges with partner `i`, of `X` one per exchange. -/
def share (X : Fin 10 → sProp 𝕄) (i : Fin 4) : sProp 𝕄 := bigSep Finset.univ fun k : Fin 10 => if pidx k = i then X k else iprop(emp)

/-- With duty `i` of device `c`'s barrier cell its partner `i` hands over its landing slots of the exchanges with `c`. -/
def barPay (c : Dev nD) (i : Fin 4) : sProp 𝕄 := share (fun k => slotAny (pt k c) k) i
/-- The receive cell of exchange `k` hands over the slot with the partner's block. -/
def recvPay (c : Dev nD) (k : Fin 10) : sProp 𝕄 :=
  iprop(∃ f, slotPts c k ((slotM k).view.write (Elt F) f (E m ρ k.val (pt k c)) Finset.univ))
/-- The send cell of exchange `k` gives back the block sent. -/
def sendPay (c : Dev nD) (k : Fin 10) : sProp 𝕄 := curPts c (E m ρ k.val c)

omit [FloatOps F] in
instance slotAny_storable (c : Dev nD) (k) : BI.Storable (upEmb : UEmb _ 𝕄) (slotAny (F := F) c k) := by unfold slotAny; infer_instance
omit [FloatOps F] in
instance share_storable (X : Fin 10 → sProp 𝕄) [∀ k, BI.Storable (upEmb : UEmb _ 𝕄) (X k)] (i : Fin 4) : BI.Storable (upEmb : UEmb _ 𝕄) (share (F := F) X i) := by
  unfold share
  have h : ∀ k, BI.Storable (upEmb : UEmb _ 𝕄) (if pidx k = i then X k else iprop(emp)) := fun k => by split <;> infer_instance
  infer_instance
omit [FloatOps F] in
instance barPay_storable (c : Dev nD) (i) : BI.Storable (upEmb : UEmb _ 𝕄) (barPay (F := F) c i) := by unfold barPay; infer_instance
instance recvPay_storable (c : Dev nD) (k) : BI.Storable (upEmb : UEmb _ 𝕄) (recvPay (F := F) m ρ c k) := by unfold recvPay; infer_instance
instance sendPay_storable (c : Dev nD) (k) : BI.Storable (upEmb : UEmb _ 𝕄) (sendPay (F := F) m ρ c k) := by unfold sendPay; infer_instance

def dutiesOf : Option CI → Finset (Fin 4)
  | none => ∅
  | some (.inl _) => Finset.univ
  | some (.inr _) => {0}
def amountOf : Option CI → ℕ
  | some (.inl _) => 1
  | _ => N
def payOf (c : Dev nD) (d : Fin 4) : Option CI → sProp 𝕄
  | none => iprop(emp)
  | some (.inl _) => barPay c d
  | some (.inr (.inl k)) => sendPay m ρ c k
  | some (.inr (.inr k)) => recvPay m ρ c k

/-- One round: a barrier cell's four duties of one unit, a send or receive cell's one duty of a block's credit. -/
def ringRd : Rounds.Schedule (GSem nD τ sig) (Fin 4) 𝕄 where
  duties g r := if r = 0 ∧ g.1.2 = .tc then dutiesOf (kindOf g.2) else ∅
  unitless _ := False
  amount g _ _ := amountOf (kindOf g.2)
  payload g _ d := payOf m ρ g.1.1 d (kindOf g.2)
  amount_pos g _ _ _ := by
    rcases kindOf g.2 with _ | u | i
    · exact N_pos
    · exact Nat.one_pos
    · exact N_pos

instance ringRd_payload_storable (g : GSem nD τ sig) (r : ℕ) (d : Fin 4) :
    BI.Storable (upEmb : UEmb _ 𝕄) ((ringRd (F := F) m ρ).payload g r d) := by
  show BI.Storable upEmb (payOf m ρ g.1.1 d (kindOf g.2))
  rcases kindOf g.2 with _ | u | k | k <;> unfold payOf <;> infer_instance

section Sched
variable (c : Dev nD)

theorem duties_at (i : CI) : (ringRd (F := F) m ρ).duties (kcell (c, i)) 0 = dutiesOf (some i) := by
  dsimp only [ringRd]; rw [if_pos ⟨rfl, rfl⟩, kindOf_csem]
theorem duties_later (g : GSem nD τ sig) : ∀ r, 1 ≤ r → (ringRd (F := F) m ρ).duties g r = ∅ :=
  fun r hr => by dsimp only [ringRd]; rw [if_neg fun h => by omega]
theorem amount_at (i : CI) (r : ℕ) (d : Fin 4) : (ringRd (F := F) m ρ).amount (kcell (c, i)) r d = amountOf (some i) := by
  dsimp only [ringRd]; rw [kindOf_csem]
theorem payload_at (i : CI) (r : ℕ) (d : Fin 4) : (ringRd (F := F) m ρ).payload (kcell (c, i)) r d = payOf m ρ c d (some i) := by
  dsimp only [ringRd]; rw [kindOf_csem]

theorem expect_bar : (ringRd (F := F) m ρ).expect (kcell (c, iB)) 0 = 4 := by
  unfold Schedule.expect Schedule.amountOf
  rw [duties_at, Finset.sum_congr rfl fun d _ => amount_at m ρ c iB 0 d]
  rfl
theorem expect_snd (k : Fin 10) : (ringRd (F := F) m ρ).expect (kcell (c, iS k)) 0 = N := by
  unfold Schedule.expect Schedule.amountOf
  rw [duties_at]; exact (Finset.sum_singleton _ _).trans (amount_at m ρ c (iS k) 0 0)
theorem expect_rcv (k : Fin 10) : (ringRd (F := F) m ρ).expect (kcell (c, iR k)) 0 = N := by
  unfold Schedule.expect Schedule.amountOf
  rw [duties_at]; exact (Finset.sum_singleton _ _).trans (amount_at m ρ c (iR k) 0 0)

theorem rest_bar : bigSep ((ringRd (F := F) m ρ).duties (kcell (c, iB)) 0 \ ∅) (fun d => (ringRd (F := F) m ρ).payload (kcell (c, iB)) 0 d)
    = bigSep Finset.univ (barPay c) := by
  rw [Finset.sdiff_empty, duties_at]
  exact bigSep_congr fun d _ => payload_at m ρ c iB 0 d
theorem rest_snd (k : Fin 10) : bigSep ((ringRd (F := F) m ρ).duties (kcell (c, iS k)) 0 \ ∅) (fun d => (ringRd (F := F) m ρ).payload (kcell (c, iS k)) 0 d)
    = sendPay m ρ c k := by
  rw [Finset.sdiff_empty, duties_at]
  exact bigSep_singleton.trans (payload_at m ρ c (iS k) 0 0)
theorem rest_rcv (k : Fin 10) : bigSep ((ringRd (F := F) m ρ).duties (kcell (c, iR k)) 0 \ ∅) (fun d => (ringRd (F := F) m ρ).payload (kcell (c, iR k)) 0 d)
    = recvPay m ρ c k := by
  rw [Finset.sdiff_empty, duties_at]
  exact bigSep_singleton.trans (payload_at m ρ c (iR k) 0 0)

end Sched

omit [FloatOps F] in
/-- The exchanges sorted by their partner. -/
theorem share_all (X : Fin 10 → sProp 𝕄) : bigSep Finset.univ X = bigSep Finset.univ (share X) := by
  unfold share
  rw [bigSep_univ_comm]
  refine bigSep_congr fun k _ => ?_
  rw [bigSep_univ_at _ (pidx k), if_pos rfl, bigSep_congr (Ψ := fun _ => iprop(emp)) fun i hi => if_neg (Finset.mem_erase.mp hi).1.symm]
  refine Eq.trans ?_ (congrArg (fun Z => iprop(X k ∗ Z)) (bigSep_emp_const _).symm)
  exact (BI.Entails.antisymm (sep_emp (PROP := sProp 𝕄)).1 (sep_emp (PROP := sProp 𝕄)).2).symm

omit [FloatOps F] in
/-- What device `c` pays its partner `i`'s barrier cell with: its own slots of the exchanges with it. -/
theorem barPay_own (c : Dev nD) (i : Fin 4) : barPay (F := F) (bp i c) i = share (fun k => slotAny c k) i := by
  unfold barPay share
  refine bigSep_congr fun k _ => ?_
  by_cases h : pidx k = i
  · rw [if_pos h, if_pos h]
    show slotAny (pt k (bp i c)) k = slotAny c k
    rw [show pt k (bp i c) = c by unfold pt; rw [h]; exact bp_bp i c]
  · rw [if_neg h, if_neg h]

/-! ## What each device owes at the start; the levels -/

/-- The receive credits still owed before exchange `n`. -/
def OR (n : ℕ) (c : Dev nD) : CellTallies nD τ sig Unit :=
  ∑ k ∈ Finset.univ.filter fun k : Fin 10 => n ≤ k.val, tallyAt (kcell (pt k c, iR k)) () N

theorem OR_step (k : Fin 10) (c : Dev nD) : OR k.val c = OR (k.val + 1) c + tallyAt (kcell (pt k c, iR k)) () N := by
  unfold OR
  rw [show (Finset.univ.filter fun j : Fin 10 => k.val ≤ j.val) = insert k (Finset.univ.filter fun j : Fin 10 => k.val + 1 ≤ j.val) by
    ext j; simp only [Finset.mem_filter, Finset.mem_univ, true_and, Finset.mem_insert, Fin.ext_iff]; omega]
  rw [Finset.sum_insert (by simp), add_comm]

theorem OR_ten (c : Dev nD) : OR 10 c = 0 := by
  unfold OR
  rw [Finset.sum_eq_zero fun k hk => absurd (Finset.mem_filter.mp hk).2 (by have := k.isLt; omega)]

abbrev bt (i : Fin 4) (c : Dev nD) : CellTallies nD τ sig Unit := tallyAt (kcell (bp i c, iB)) () 1

/-- The receive credits of its partners and one unit of each partner's barrier cell. -/
def O₀ (c : Dev nD) : CellTallies nD τ sig Unit := OR 0 c + bt 3 c + bt 2 c + bt 1 c + bt 0 c

def L (g : GSem nD τ sig) : Finset Unit := if g.1.2 = .tc then {()} else ∅
def levOf : Option CI → ℕ
  | some (.inl _) => 1
  | some (.inr (.inr k)) => k.val + 2
  | _ => 0
/-- Barrier cells at 1, the receive cells of exchange `k` at `k + 2`, everything else at 0. -/
def lv (g : GSem nD τ sig) (_ : Unit) : ℕ := levOf (kindOf g.2)

theorem L_of_ne (g : GSem nD τ sig) (h : g.1.2 ≠ .tc) : L g = ∅ := if_neg h
theorem L_tc (c : Dev nD) (sm : SemLoc sig) : () ∈ L ((c : Thread nD τ), sm) := by
  unfold L; rw [if_pos rfl]; exact Finset.mem_singleton_self _
theorem lv_at (c : Dev nD) (i : CI) : lv (kcell (c, i)) () = levOf (some i) := by unfold lv; rw [kindOf_csem]

theorem OR_pos {n : ℕ} {c : Dev nD} {g : GSem nD τ sig} {u : Unit} (h : 0 < OR n c g u) : ∃ k : Fin 10, n ≤ k.val ∧ g = kcell (pt k c, iR k) := by
  obtain ⟨k, hk, hp⟩ := Pipeline.sum_pos_exists h
  exact ⟨k, (Finset.mem_filter.mp hk).2, (Pipeline.tallyAt_pos hp).1⟩

theorem O₀_pos {c : Dev nD} {g : GSem nD τ sig} {u : Unit} (h : 0 < O₀ c g u) :
    (∃ k : Fin 10, g = kcell (pt k c, iR k)) ∨ ∃ i : Fin 4, g = kcell (bp i c, iB) := by
  unfold O₀ at h
  rcases Pipeline.add_pos_cases h with h | h
  · rcases Pipeline.add_pos_cases h with h | h
    · rcases Pipeline.add_pos_cases h with h | h
      · rcases Pipeline.add_pos_cases h with h | h
        · obtain ⟨k, _, hk⟩ := OR_pos h; exact .inl ⟨k, hk⟩
        · exact .inr ⟨3, (Pipeline.tallyAt_pos h).1⟩
      · exact .inr ⟨2, (Pipeline.tallyAt_pos h).1⟩
    · exact .inr ⟨1, (Pipeline.tallyAt_pos h).1⟩
  · exact .inr ⟨0, (Pipeline.tallyAt_pos h).1⟩

omit [FloatOps F] in
/-- A wait on a cell below every receive cell of the exchanges from `n` on, owing those. -/
theorem mayWait_OR (c : Dev nD) (sm : SemLoc sig) (n : ℕ) (h : levOf (kindOf sm) < n + 2) :
    (levAts L lv : sProp 𝕄) ⊢ MayWait (c : Thread nD τ) sm () (OR n c) :=
  Pipeline.mayWait_of_levAts (L_tc c sm) fun g u hg => by
    obtain ⟨k, hk, rfl⟩ := OR_pos hg
    refine ⟨L_tc _ _, ?_⟩
    rw [lv_at]; show levOf (kindOf sm) < k.val + 2; omega

omit [FloatOps F] in
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L_tc c _) fun g u hg => ?_
    have h0 : lv ((c : Thread nD τ), .dma q) () = 0 := by unfold lv; rw [hq]; rfl
    rcases O₀_pos hg with ⟨k, rfl⟩ | ⟨i, rfl⟩
    · exact ⟨L_tc _ _, by rw [h0, lv_at]; exact Nat.succ_pos _⟩
    · exact ⟨L_tc _ _, by rw [h0, lv_at]; exact Nat.one_pos⟩
  · rw [MayWait_zero]; iintro -; iempintro

/-! ## What the launch records for all devices -/

/-- Every cell's invariant, at the names `K`, and that every cell has reached round 0. -/
def records (K : Dev nD × CI → ℕ) : sProp 𝕄 :=
  iprop((bigSep Finset.univ fun ck : Dev nD × CI => cellInv ER (ringRd m ρ) (K ck) (kcell ck))
    ∗ bigSep Finset.univ fun ck : Dev nD × CI => reached ER (kcell ck) 0)

instance records_persistent (K : Dev nD × CI → ℕ) : BI.Persistent (records m ρ K) := by unfold records; infer_instance

omit [FloatOps F] in
theorem one_of {I : Type} [Fintype I] [DecidableEq I] (X : I → sProp 𝕄) (i : I) : bigSep Finset.univ X ⊢ X i := bigSep_elim (Finset.mem_univ i)

theorem inv_at (K : Dev nD × CI → ℕ) (ck : Dev nD × CI) : records m ρ K ⊢ cellInv ER (ringRd m ρ) (K ck) (kcell ck) := by
  unfold records
  iintro ⟨H, -⟩
  iapply (one_of (F := F) (fun ck : Dev nD × CI => cellInv ER (ringRd m ρ) (K ck) (kcell ck)) ck); iexact H
theorem reached_at (K : Dev nD × CI → ℕ) (ck : Dev nD × CI) : records m ρ K ⊢ reached ER (kcell ck) 0 := by
  unfold records
  iintro ⟨-, H⟩
  iapply (one_of (F := F) (fun ck : Dev nD × CI => reached ER (kcell ck) 0) ck); iexact H

end Cert.KernelIdeal.Sort

end
-- ==== Proof.BodyIdeal.lean ====
/-
The body, executed step by step: one exchange, one run of local passes, the handshake, and the whole.
-/
module

public import proofs.«01_k».proof.Proof.ProtoIdeal
public import Idealize.ShloMosaic.Lib.Pipeline.Value

@[expose] public section

noncomputable section

namespace Cert.KernelIdeal.Sort

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Loads and stores of a whole block -/

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x256 .f32).view.readAt (Elt F) whole0.toLoadRect f = f :=
  Memref.readAt_unit_zero (Elt F) cc0_stg0_0 hz _ f
omit [FloatOps F] in
theorem read_cur (f : (cc0_scratch0 : Ref sig .tc).ty.Contents (Elt F)) : (curM : Memref sig .tc .vmem S1024x256 .f32).view.readAt (Elt F) whole0.toLoadRect f = f :=
  Memref.readAt_unit_zero (Elt F) cc0_scratch0 hz _ f
omit [FloatOps F] in
theorem write_cur (f w : (cc0_scratch0 : Ref sig .tc).ty.Contents (Elt F)) :
    ((curM : Memref sig .tc .vmem S1024x256 .f32).access whole0 : View sig .tc _ _ _).write (Elt F) f w Finset.univ = w :=
  Memref.write_access_unit_zero_univ (Elt F) cc0_scratch0 hz _ f w
omit [FloatOps F] in
theorem write_out (f w : (cc0_stg1_0 : Ref sig .tc).ty.Contents (Elt F)) :
    ((oM : Memref sig .tc .vmem S1024x256 .f32).access whole0 : View sig .tc _ _ _).write (Elt F) f w Finset.univ = w :=
  Memref.write_access_unit_zero_univ (Elt F) cc0_stg1_0 hz _ f w

section Steps

variable (c : Dev nD)

/-- A store of `w` into the working block. -/
theorem wp_put_cur {α : Type} {Q : α → sProp 𝕄} (v w : FVec F S1024x256 .f32) (k : PUnit → PG F α) :
    iprop(curPts c v ∗ (curPts c w -∗ wp frame (wpE (defs₀ (F := F)) 𝒱₀ (c : Thread nD τ) none) Set.univ (k ⟨⟩) Q))
      ⊢ wp frame (wpE (defs₀ (F := F)) 𝒱₀ (c : Thread nD τ) none) Set.univ (put curM w >>= k) Q := by
  unfold put curPts
  simp only [Prog.lift, Prog.bind_op, Prog.bind_ret, Prog.pure_eq_ret]
  iintro ⟨H, Hk⟩
  iapply (wp_load 𝒱₀ (c : Thread nD τ) none Set.univ (m := curM) (by rw [cur_set]; exact Finset.subset_univ _)) $$ H; iintro H
  iapply (wp_store 𝒱₀ (c : Thread nD τ) none Set.univ (m := curM) (r := whole0) (Mk := Finset.univ) (by rw [cur_set]; exact Finset.subset_univ _)) $$ H; iintro H
  rw [write_cur]
  iapply Hk; iexact H

/-- The wait on the send cell of exchange `k`: the block sent comes back. -/
theorem wp_wait_snd {α : Type} {Q : α → sProp 𝕄} (K : Dev nD × CI → ℕ) (k : Fin 10) {h1 h2} (O : CellTallies nD τ sig Unit) (W : Waits sig Unit) (f : PUnit → PG F α) :
    iprop(cellInv ER (ringRd m ρ) (K (c, iS k)) (kcell (c, iS k)) ∗ cred (tallyAt (kcell (c, iS k)) () N) ∗ owes (c : Thread nD τ) O W
        ∗ MayWait (c : Thread nD τ) (csem (iS k)) () O ∗ atPos ER (kcell (c, iS k)) 0 ∅ 0)
      ⊢ iprop(((owes (c : Thread nD τ) O (insert (csem (iS k), ()) W) ∗ atPos ER (kcell (c, iS k)) 1 ∅ 0 ∗ sendPay m ρ c k)
            -∗ wp frame (wpE (defs₀ (F := F)) 𝒱₀ (c : Thread nD τ) none) Set.univ (f ⟨⟩) Q)
          -∗ wp frame (wpE (defs₀ (F := F)) 𝒱₀ (c : Thread nD τ) none) Set.univ (.op (.waitDma2 (sS k) (slotM k) curM h1 h2) f) Q) := by
  rw [← rest_snd m ρ c k]
  iintro H Hk
  iapply (Rounds.wp_wait_rest_token 𝒱₀ ER (ringRd m ρ) (c : Thread nD τ) none (κ := K (c, iS k)) (sm := csem (iS k))
      (wpE_waitDma2_eq 𝒱₀ (c : Thread nD τ) none Set.univ) (Set.mem_univ _) () (O := O) (W := W) (R := 0) (m := 0) (T := ∅)
      (by rw [expect_snd]; exact Nat.zero_add _)) $$ H
  iintro ⟨HO, Hat, -, Hp⟩
  iapply Hk
  isplitl [HO]; · iexact HO
  isplitl [Hat]; · iexact Hat
  iexact Hp

/-- The wait on the receive cell of exchange `k`: the slot comes with the partner's block. -/
theorem wp_wait_rcv {α : Type} {Q : α → sProp 𝕄} (K : Dev nD × CI → ℕ) (k : Fin 10) {h1 h2} (O : CellTallies nD τ sig Unit) (W : Waits sig Unit) (f : PUnit → PG F α) :
    iprop(cellInv ER (ringRd m ρ) (K (c, iR k)) (kcell (c, iR k)) ∗ cred (tallyAt (kcell (c, iR k)) () N) ∗ owes (c : Thread nD τ) O W
        ∗ MayWait (c : Thread nD τ) (csem (iR k)) () O ∗ atPos ER (kcell (c, iR k)) 0 ∅ 0)
      ⊢ iprop(((owes (c : Thread nD τ) O (insert (csem (iR k), ()) W) ∗ atPos ER (kcell (c, iR k)) 1 ∅ 0 ∗ recvPay m ρ c k)
            -∗ wp frame (wpE (defs₀ (F := F)) 𝒱₀ (c : Thread nD τ) none) Set.univ (f ⟨⟩) Q)
          -∗ wp frame (wpE (defs₀ (F := F)) 𝒱₀ (c : Thread nD τ) none) Set.univ (.op (.waitDma2 (rS k) curM (slotM k) h1 h2) f) Q) := by
  rw [← rest_rcv m ρ c k]
  iintro H Hk
  iapply (Rounds.wp_wait_rest_token 𝒱₀ ER (ringRd m ρ) (c : Thread nD τ) none (κ := K (c, iR k)) (sm := csem (iR k)) (k' := N)
      (fun X => (wpE_waitDma2_eq 𝒱₀ (c : Thread nD τ) none Set.univ X).trans (by rw [slot_credit]; rfl)) (Set.mem_univ _) () (O := O) (W := W) (R := 0) (m := 0) (T := ∅)
      (by rw [expect_rcv]; exact Nat.zero_add _)) $$ H
  iintro ⟨HO, Hat, -, Hp⟩
  iapply Hk
  isplitl [HO]; · iexact HO
  isplitl [Hat]; · iexact Hat
  iexact Hp

/-- The transfer of exchange `k`. -/
theorem wp_send {α : Type} {Q : α → sProp 𝕄} (K : Dev nD × CI → ℕ) (k : Fin 10) (p : Dev nD) (hp : p = pt k c) {hsc : (slotM k : Memref sig (Dev.tc p : Thread nD τ).2.kind .vmem S1024x256 .f32).view.ref.isScScratch = false}
    {hsrc : (curM : Memref sig .tc .vmem S1024x256 .f32).view.WordExact} {hdst : (slotM k).view.WordExact}
    {hsem : DmaTarget.Typed .vmem (.dma (rS k)) (.remote (Dev.tc p : Thread nD τ) (slotM k) (.dma (sS k)) hsc)}
    (fn : Buf (Elt F) ((slotM k).view.loc (pt k c : Thread nD τ))) (W : Waits sig Unit) (f : PUnit → PG F α) :
    iprop(cellInv ER (ringRd m ρ) (K (c, iS k)) (kcell (c, iS k)) ∗ cellInv ER (ringRd m ρ) (K (pt k c, iR k)) (kcell (pt k c, iR k))
        ∗ curPts c (E m ρ k.val c) ∗ slotPts (pt k c) k fn
        ∗ owes (c : Thread nD τ) (OR k.val c) W
        ∗ dutyTok ER (kcell (c, iS k)) 0 0 ∗ reached ER (kcell (c, iS k)) 0
        ∗ dutyTok ER (kcell (pt k c, iR k)) 0 0 ∗ reached ER (kcell (pt k c, iR k)) 0)
      ⊢ iprop(((cred (tallyAt (kcell (c, iS k)) () N) ∗ owes (c : Thread nD τ) (OR (k.val + 1) c) W)
            -∗ wp frame (wpE (defs₀ (F := F)) 𝒱₀ (c : Thread nD τ) none) Set.univ (f ⟨⟩) Q)
          -∗ wp frame (wpE (defs₀ (F := F)) 𝒱₀ (c : Thread nD τ) none) Set.univ
              (.op (.enqueueDma curM (.remote (Dev.tc p : Thread nD τ) (slotM k) (.dma (sS k)) hsc) (.dma (rS k)) hsrc hdst hsem) f) Q) := by
  subst hp
  unfold curPts slotPts
  exact Rounds.wp_send_pointsTo 𝒱₀ ER (ringRd m ρ) (c : Thread nD τ) none (κ₁ := K (c, iS k)) (κ₂ := K (pt k c, iR k))
    (r₁ := 0) (r₂ := 0) (d₁ := 0) (d₂ := 0) (fd := fn)
    (by show (0 : Fin 4) ∈ (ringRd m ρ).duties (kcell (c, iS k)) 0; rw [duties_at]; exact Finset.mem_singleton_self _)
    (by show (0 : Fin 4) ∈ (ringRd m ρ).duties (kcell (pt k c, iR k)) 0; rw [duties_at]; exact Finset.mem_singleton_self _)
    () () N rfl (amount_at m ρ c (iS k) 0 0) (amount_at m ρ (pt k c) (iR k) 0 0) (OR (k.val + 1) c) (OR_step k c) (W := W)
    (by refine Entails.of_eq ?_; exact (payload_at m ρ c (iS k) 0 0).symm)
    (by
      refine BI.Entails.trans ?_ (Entails.of_eq (payload_at m ρ (pt k c) (iR k) 0 0).symm)
      show _ ⊢ recvPay m ρ (pt k c) k
      unfold recvPay slotPts
      iintro H
      iexists fn
      rw [pt_pt]
      iexact H)

end Steps

/-! ## One exchange -/

/-- What device `c` brings to exchange `k` beside its block: its positions at the two cells, the two duties it pays, its
    credit for the receive cell, and its partner's slot. -/
def exRes (c : Dev nD) (k : Fin 10) : sProp 𝕄 :=
  iprop(atPos ER (kcell (c, iS k)) 0 ∅ 0 ∗ atPos ER (kcell (c, iR k)) 0 ∅ 0 ∗ dutyTok ER (kcell (c, iS k)) 0 0
    ∗ dutyTok ER (kcell (pt k c, iR k)) 0 0 ∗ cred (tallyAt (kcell (c, iR k)) () N) ∗ slotAny (pt k c) k)
/-- What is left of it after: its own slot and the two cells at zero. -/
def exOut (c : Dev nD) (k : Fin 10) : sProp 𝕄 :=
  iprop(slotAny c k ∗ semVal (kcell (c, iS k)) 0 ∗ semVal (kcell (c, iR k)) 0)

/-- Before exchange `n`, the block held being `v`. -/
def At (n : ℕ) (v : FVec F S1024x256 .f32) (c : Dev nD) : sProp 𝕄 :=
  iprop(curPts c v ∗ (bigSep (Finset.univ.filter fun k : Fin 10 => n ≤ k.val) fun k => exRes c k)
    ∗ (bigSep (Finset.univ.filter fun k : Fin 10 => k.val < n) fun k => exOut c k) ∗ ∃ W, owes (c : Thread nD τ) (OR n c) W)

omit [FloatOps F] in
theorem next_take (k : Fin 10) (X : Fin 10 → sProp 𝕄) :
    bigSep (Finset.univ.filter fun j : Fin 10 => k.val ≤ j.val) X = iprop(X k ∗ bigSep (Finset.univ.filter fun j : Fin 10 => k.val + 1 ≤ j.val) X) := by
  rw [show (Finset.univ.filter fun j : Fin 10 => k.val ≤ j.val) = insert k (Finset.univ.filter fun j : Fin 10 => k.val + 1 ≤ j.val) by
    ext j; simp only [Finset.mem_filter, Finset.mem_univ, true_and, Finset.mem_insert, Fin.ext_iff]; omega]
  exact bigSep_insert (by simp)
omit [FloatOps F] in
theorem done_put (k : Fin 10) (X : Fin 10 → sProp 𝕄) :
    bigSep (Finset.univ.filter fun j : Fin 10 => j.val < k.val + 1) X = iprop(X k ∗ bigSep (Finset.univ.filter fun j : Fin 10 => j.val < k.val) X) := by
  rw [show (Finset.univ.filter fun j : Fin 10 => j.val < k.val + 1) = insert k (Finset.univ.filter fun j : Fin 10 => j.val < k.val) by
    ext j; simp only [Finset.mem_filter, Finset.mem_univ, true_and, Finset.mem_insert, Fin.ext_iff]; omega]
  exact bigSep_insert (by simp)

/-- Exchange `k`: from the block held before it to the merge of it with the partner's. -/
theorem wp_exch (K : Dev nD × CI → ℕ) (c : Dev nD) (k : Fin 10) (p : Dev nD) (hp : p = pt k c) (d t : BitVec 32) (hd : d = dK k) (ht : t = tK k)
    (Φ : FVec F S1024x256 .f32 → sProp 𝕄) :
    iprop(records m ρ K ∗ levAts L lv ∗ At k.val (E m ρ k.val c) c
        ∗ (At (k.val + 1) (mer k (E m ρ k.val) c) c -∗ Φ (mer k (E m ρ k.val) c)))
      ⊢ wp frame (wpE (defs₀ (F := F)) 𝒱₀ (c : Thread nD τ) none) Set.univ
          (exch curM (Memref.isWhole_whole _) rcvM cc0_scratch2 cc0_scratch3 k p (myW c) d t) Φ := by
  subst hd ht
  unfold exch At
  rw [next_take, done_put]
  simp only [Prog.lift, Prog.bind_op, Prog.bind_ret, Prog.pure_eq_ret]
  iintro ⟨#HR, #Hlev, ⟨Hcur, ⟨Hres, Hnext⟩, Hdone, ⟨%W, HO⟩⟩, Hk⟩
  unfold exRes slotAny
  icases Hres with ⟨HatS, HatR, HtS, HtR, HcR, ⟨%fn, Hslot⟩⟩
  ihave #HIS := (inv_at m ρ K (c, iS k)) $$ HR
  ihave #HIR := (inv_at m ρ K (c, iR k)) $$ HR
  ihave #HIP := (inv_at m ρ K (pt k c, iR k)) $$ HR
  ihave #HrS := (reached_at m ρ K (c, iS k)) $$ HR
  ihave #HrP := (reached_at m ρ K (pt k c, iR k)) $$ HR
  -- the transfer
  iapply (wp_send m ρ c K k p hp fn W) $$ [Hcur Hslot HO HtS HtR]
  · isplitr; · iexact HIS
    isplitr; · iexact HIP
    isplitl [Hcur]; · iexact Hcur
    isplitl [Hslot]; · iexact Hslot
    isplitl [HO]; · iexact HO
    isplitl [HtS]; · iexact HtS
    isplitr; · iexact HrS
    isplitl [HtR]; · iexact HtR
    iexact HrP
  iintro ⟨HcS, HO⟩
  -- the block sent comes back
  iapply (wp_wait_snd m ρ c K k (OR (k.val + 1) c) W) $$ [HcS HO HatS]
  · isplitr; · iexact HIS
    isplitl [HcS]; · iexact HcS
    isplitl [HO]; · iexact HO
    isplitr
    · iapply (mayWait_OR c (csem (iS k)) (k.val + 1) (by rw [kindOf_csem]; exact Nat.succ_pos _)); iexact Hlev
    iexact HatS
  iintro ⟨HO, HatS, Hcur⟩
  -- the partner's block arrives
  iapply (wp_wait_rcv m ρ c K k (OR (k.val + 1) c) (insert (csem (iS k), ()) W)) $$ [HcR HO HatR]
  · isplitr; · iexact HIR
    isplitl [HcR]; · iexact HcR
    isplitl [HO]; · iexact HO
    isplitr
    · iapply (mayWait_OR c (csem (iR k)) (k.val + 1) (by rw [kindOf_csem]; show k.val + 2 < k.val + 1 + 2; omega)); iexact Hlev
    iexact HatR
  iintro ⟨HO, HatR, Hrp⟩
  -- the two cells close
  imod (Rounds.cell_close ER (ringRd m ρ) (Set.mem_univ (K (c, iS k))) (fun h => h) (R := 1) (duties_later m ρ (kcell (c, iS k)))) $$ [HatS] with HzS
  · isplitr; · iexact HIS
    iexact HatS
  imod (Rounds.cell_close ER (ringRd m ρ) (Set.mem_univ (K (c, iR k))) (fun h => h) (R := 1) (duties_later m ρ (kcell (c, iR k)))) $$ [HatR] with HzR
  · isplitr; · iexact HIR
    iexact HatR
  -- the loads, the merge, the store
  unfold sendPay recvPay
  icases Hrp with ⟨%fr, Hslot⟩
  unfold curPts slotPts
  iapply (wp_load 𝒱₀ (c : Thread nD τ) none Set.univ (m := curM) (by rw [cur_set]; exact Finset.subset_univ _)) $$ Hcur; iintro Hcur
  rw [read_cur]
  iapply (wp_load 𝒱₀ (c : Thread nD τ) none Set.univ (m := rcvM) (by
    show (rcvM : Memref sig .tc .vmem S10x1024x256 .f32).view.setOn _ ⊆ (slotM k).view.set
    rw [slot_set]; exact (Finset.map_refl (s := _)).subset)) $$ Hslot; iintro Hslot
  rw [slot_read_back, shapeCast_self]
  iapply (wp_put_cur c (E m ρ k.val c) (mer k (E m ρ k.val) c) (fun _ => Prog.ret (mer k (E m ρ k.val) c)))
  unfold curPts
  isplitl [Hcur]; · iexact Hcur
  iintro Hcur
  rw [wp_ret]; imodintro
  iapply Hk
  isplitl [Hcur]; · iexact Hcur
  isplitl [Hnext]; · iexact Hnext
  isplitl [Hslot HzS HzR Hdone]
  · isplitr [Hdone]
    · unfold exOut slotAny slotPts
      isplitl [Hslot]
      · iexists _; iexact Hslot
      isplitl [HzS] <;> iassumption
    · iexact Hdone
  iexists _; iexact HO

end Cert.KernelIdeal.Sort

end
-- ==== Proof.WholeIdeal.lean ====
/-
The whole body: the handshake, the local sort, the ten exchanges and the four runs of local passes, in order.
-/
module

public import proofs.«01_k».proof.Proof.BodyIdeal

@[expose] public section

noncomputable section

namespace Cert.KernelIdeal.Sort

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The ten local passes of stage `s`. -/
theorem wp_local (c : Dev nD) (n s : ℕ) (v : FVec F S1024x256 .f32) (Φ : FVec F S1024x256 .f32 → sProp 𝕄) :
    iprop(At n v c ∗ (At n (passes (myW c) s 10 (le_refl _) v) c -∗ Φ (passes (myW c) s 10 (le_refl _) v)))
      ⊢ wp frame (wpE (defs₀ (F := F)) 𝒱₀ (c : Thread nD τ) none) Set.univ (local10 curM (myW c) s v) Φ := by
  unfold local10 At
  simp only [Prog.pure_eq_ret]
  rw [shapeCast_self]
  iintro ⟨⟨Hcur, Hrest⟩, Hk⟩
  iapply (wp_put_cur c v (passes (myW c) s 10 (le_refl _) v) (fun _ => Prog.ret (passes (myW c) s 10 (le_refl _) v)))
  isplitl [Hcur]; · iexact Hcur
  iintro Hcur
  rw [wp_ret]; imodintro
  iapply Hk
  isplitl [Hcur]; · iexact Hcur
  iexact Hrest

/-- The signal to partner `i`: its barrier's duty `i`, with the slots of the exchanges with it. -/
theorem wp_sig {α : Type} {Q : α → sProp 𝕄} (K : Dev nD × CI → ℕ) (c : Dev nD) (i : Fin 4) (p : Dev nD) (hp : p = bp i c)
    (O₁ O : CellTallies nD τ sig Unit) (hO : O₁ = O + bt i c) (W : Waits sig Unit) (f : PUnit → PG F α) :
    iprop(records m ρ K ∗ owes (c : Thread nD τ) O₁ W ∗ dutyTok ER (kcell (bp i c, iB)) 0 i ∗ share (fun k => slotAny c k) i)
      ⊢ iprop((owes (c : Thread nD τ) O W -∗ wp frame (wpE (defs₀ (F := F)) 𝒱₀ (c : Thread nD τ) none) Set.univ (f ⟨⟩) Q)
          -∗ wp frame (wpE (defs₀ (F := F)) 𝒱₀ (c : Thread nD τ) none) Set.univ (semSignalWord p barS 1#32 >>= f) Q) := by
  subst hp
  simp only [semSignalWord, Prog.lift, Prog.bind_op, Prog.bind_ret]
  iintro ⟨#HR, HO, Ht, Hs⟩ Hk
  ihave #HI := (inv_at m ρ K (bp i c, iB)) $$ HR
  ihave #Hr := (reached_at m ρ K (bp i c, iB)) $$ HR
  iapply (Rounds.wp_signal 𝒱₀ ER (ringRd m ρ) (c : Thread nD τ) none (dst := (bp i c : Thread nD τ)) (κ := K (bp i c, iB)) (r := 0)
      (d := i) (by show i ∈ (ringRd m ρ).duties (kcell (bp i c, iB)) 0; rw [duties_at]; exact Finset.mem_univ _)
      ((amount_at m ρ (bp i c) iB 0 i).trans (by decide)) () O hO)
    $$ [HO Ht Hs]
  · isplitr; · iexact HI
    isplitl [HO]; · iexact HO
    isplitl [Ht]; · iexact Ht
    isplitl [Hs]
    · iapply (show share (fun k => slotAny (F := F) c k) i ⊢ (ringRd m ρ).payload ((bp i c : Thread nD τ), .reg barS) 0 i from
        Entails.of_eq ((barPay_own c i).symm.trans (payload_at m ρ (bp i c) iB 0 i).symm))
      iexact Hs
    iexact Hr
  iexact Hk

/-- The wait for the four partners: their slots come with it. -/
theorem wp_hand {α : Type} {Q : α → sProp 𝕄} (K : Dev nD × CI → ℕ) (c : Dev nD) (W : Waits sig Unit) (f : PUnit → PG F α) :
    iprop(records m ρ K ∗ levAts L lv ∗ cred (tallyAt (kcell (c, iB)) () 4) ∗ owes (c : Thread nD τ) (OR 0 c) W ∗ atPos ER (kcell (c, iB)) 0 ∅ 0)
      ⊢ iprop(((owes (c : Thread nD τ) (OR 0 c) (insert (csem iB, ()) W) ∗ semVal (kcell (c, iB)) 0 ∗ bigSep Finset.univ fun k : Fin 10 => slotAny (pt k c) k)
            -∗ wp frame (wpE (defs₀ (F := F)) 𝒱₀ (c : Thread nD τ) none) Set.univ (f ⟨⟩) Q)
          -∗ wp frame (wpE (defs₀ (F := F)) 𝒱₀ (c : Thread nD τ) none) Set.univ (semWaitWord barS 4#32 >>= f) Q) := by
  simp only [semWaitWord, Prog.lift, Prog.bind_op, Prog.bind_ret]
  iintro ⟨#HR, #Hlev, Hc, HO, Hat⟩ Hk
  ihave #HI := (inv_at m ρ K (c, iB)) $$ HR
  iapply (Rounds.wp_wait_rest_token 𝒱₀ ER (ringRd m ρ) (c : Thread nD τ) none (κ := K (c, iB)) (sm := csem iB)
      (wpE_semWait_eq 𝒱₀ (c : Thread nD τ) none Set.univ) (Set.mem_univ _) () (O := OR 0 c) (W := W) (R := 0) (m := 0) (T := ∅)
      (by rw [expect_bar]; decide)) $$ [Hc HO Hat]
  · isplitr; · iexact HI
    isplitl [Hc]; · iexact Hc
    isplitl [HO]; · iexact HO
    isplitr
    · iapply (mayWait_OR c (csem iB) 0 (by rw [kindOf_csem]; decide)); iexact Hlev
    iexact Hat
  iintro ⟨HO, Hat, -, Hp⟩
  imod (Rounds.cell_close ER (ringRd m ρ) (Set.mem_univ (K (c, iB))) (fun h => h) (R := 0 + 1) (duties_later m ρ (kcell (c, iB)))) $$ [Hat] with HzB
  · isplitr; · iexact HI
    iexact Hat
  iapply Hk
  isplitl [HO]; · iexact HO
  isplitl [HzB]; · iexact HzB
  iapply (Entails.of_eq ((rest_bar m ρ c).trans (share_all fun k => slotAny (pt k c) k).symm)); iexact Hp

/-! ## The pipeline's data -/

/-- What stays with device `c` of the launch's ghost state: its positions and the duties it pays. -/
def linear (c : Dev nD) : sProp 𝕄 :=
  iprop(atPos ER (kcell (c, iB)) 0 ∅ 0 ∗ (bigSep Finset.univ fun k : Fin 10 => atPos ER (kcell (c, iS k)) 0 ∅ 0)
    ∗ (bigSep Finset.univ fun k : Fin 10 => atPos ER (kcell (c, iR k)) 0 ∅ 0)
    ∗ (bigSep Finset.univ fun i : Fin 4 => dutyTok ER (kcell (bp i c, iB)) 0 i)
    ∗ (bigSep Finset.univ fun k : Fin 10 => dutyTok ER (kcell (c, iS k)) 0 0)
    ∗ (bigSep Finset.univ fun k : Fin 10 => dutyTok ER (kcell (pt k c, iR k)) 0 0))

def start (c : Dev nD) : sProp 𝕄 :=
  iprop((∃ K, records m ρ K ∗ linear c) ∗ cred (tallyAt (kcell (c, iB)) () 4)
    ∗ (bigSep Finset.univ fun k : Fin 10 => cred (tallyAt (kcell (c, iR k)) () N)) ∗ levAts L lv)

def Φ₀ (c : Dev nD) : sProp 𝕄 := iprop(start m ρ c ∗ (∃ v, curPts c v) ∗ bigSep Finset.univ fun k : Fin 10 => slotAny c k)
def Φ₁ (c : Dev nD) : sProp 𝕄 := iprop((∃ v, curPts (F := F) c v) ∗ (bigSep Finset.univ fun k : Fin 10 => exOut c k) ∗ semVal (kcell (c, iB)) 0)

/-- The kernel's result on device `c`. -/
def outAt (c : Dev nD) : (cc0_stg1_0 : Ref sig .tc).ty.Contents (Elt F) := E m ρ 10 c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CI → ℕ) (c : Dev nD) : sProp 𝕄 :=
  iprop(((records m ρ K ∗ linear c) ∗ (cred (tallyAt (kcell (c, iB)) () 4)
    ∗ (bigSep Finset.univ fun k : Fin 10 => cred (tallyAt (kcell (c, iR k)) () N)) ∗ levAts L lv)
      ∗ (∃ v, curPts c v) ∗ bigSep Finset.univ fun k : Fin 10 => slotAny c k)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ (F := F) c ∗ (dats m ρ 0 c).owesAt () t0_0.succ ∗ stg c cc0_stg0_0 (xstg m ρ c) ∗ stg c cc0_stg1_0 (outAt m ρ c))

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- Before the first exchange. -/
theorem At_intro (c : Dev nD) (v : FVec F S1024x256 .f32) :
    iprop(curPts c v ∗ ((bigSep Finset.univ fun k : Fin 10 => atPos ER (kcell (c, iS k)) 0 ∅ 0)
    ∗ (bigSep Finset.univ fun k : Fin 10 => atPos ER (kcell (c, iR k)) 0 ∅ 0)
    ∗ (bigSep Finset.univ fun k : Fin 10 => dutyTok ER (kcell (c, iS k)) 0 0)
    ∗ (bigSep Finset.univ fun k : Fin 10 => dutyTok ER (kcell (pt k c, iR k)) 0 0)
    ∗ (bigSep Finset.univ fun k : Fin 10 => cred (tallyAt (kcell (c, iR k)) () N))
    ∗ (bigSep Finset.univ fun k : Fin 10 => slotAny (pt k c) k)) ∗ ∃ W, owes (c : Thread nD τ) (OR 0 c) W) ⊢ (At 0 v c : sProp 𝕄) := by
  unfold At exRes
  rw [show (Finset.univ.filter fun k : Fin 10 => 0 ≤ k.val) = Finset.univ from Finset.filter_true_of_mem fun _ _ => Nat.zero_le _,
    show (Finset.univ.filter fun k : Fin 10 => k.val < 0) = ∅ from Finset.filter_false_of_mem fun _ _ => Nat.not_lt_zero _, bigSep_empty]
  simp only [bigSep_sep']
  iintro ⟨H, H1, H2⟩
  isplitl [H]; · iexact H
  isplitl [H1]; · iexact H1
  isplitr [H2]; · iempintro
  iexact H2

/-- After the last one. -/
theorem At_exit (c : Dev nD) (v : FVec F S1024x256 .f32) :
    (At 10 v c : sProp 𝕄) ⊢ iprop(curPts c v ∗ (bigSep Finset.univ fun k : Fin 10 => exOut c k) ∗ ∃ W, owes (c : Thread nD τ) 0 W) := by
  unfold At
  rw [show (Finset.univ.filter fun k : Fin 10 => k.val < 10) = Finset.univ from Finset.filter_true_of_mem fun k _ => k.isLt, OR_ten]
  iintro ⟨H, -, H1, H2⟩
  isplitl [H]; · iexact H
  isplitl [H1]; · iexact H1
  iexact H2

set_option maxHeartbeats 1600000 in
/-- The body executed from `bodyPre` to `bodyPost`. -/
theorem sound_body (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (bodyC xM oM curM (Memref.isWhole_whole _) rcvM cc0_scratch2 cc0_scratch3) Kt := by
  unfold bodyC
  rw [show (Prog.lift (TpuEff.deviceId (nD := nD) (τ := τ) (sig := sig) (Val := Elt F) (Λ := Λ₀)) : PG F (Dev nD)) = Prog.lift .deviceId from rfl]
  simp only [Prog.bind_lift, wp_deviceId]
  unfold bodyPre linear
  iintro ⟨⟨⟨⟨#HR, HatB, HatS, HatV, HtB, HtS, HtV⟩, ⟨HcB, HcV, #Hlev⟩, ⟨%v0, Hcur⟩, Hslots⟩,
    Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  ihave Hsl := (Entails.of_eq ((share_all fun k => slotAny (F := F) c k).trans (bigSep_fin4 _))) $$ Hslots
  icases Hsl with ⟨Hs0, Hs1, Hs2, Hs3⟩
  ihave Htb := (Entails.of_eq (bigSep_fin4 fun i => (dutyTok ER (kcell (bp i c, iB)) 0 i : sProp 𝕄))) $$ HtB
  icases Htb with ⟨Ht0, Ht1, Ht2, Ht3⟩
  iapply (wp_sig m ρ K c 0 _ (dev1_eq c) (O₀ c) _ rfl W) $$ [HO Ht0 Hs0]
  · isplitr; · iexact HR
    isplitl [HO]; · iexact HO
    isplitl [Ht0] <;> iassumption
  iintro HO
  iapply (wp_sig m ρ K c 1 _ (dev2_eq c) _ _ rfl W) $$ [HO Ht1 Hs1]
  · isplitr; · iexact HR
    isplitl [HO]; · iexact HO
    isplitl [Ht1] <;> iassumption
  iintro HO
  iapply (wp_sig m ρ K c 2 _ (dev3_eq c) _ _ rfl W) $$ [HO Ht2 Hs2]
  · isplitr; · iexact HR
    isplitl [HO]; · iexact HO
    isplitl [Ht2] <;> iassumption
  iintro HO
  iapply (wp_sig m ρ K c 3 _ (dev4_eq c) _ _ rfl W) $$ [HO Ht3 Hs3]
  · isplitr; · iexact HR
    isplitl [HO]; · iexact HO
    isplitl [Ht3] <;> iassumption
  iintro HO
  iapply (wp_hand m ρ K c W) $$ [HO HcB HatB]
  · isplitr; · iexact HR
    isplitr; · iexact Hlev
    isplitl [HcB]; · iexact HcB
    isplitl [HO] <;> iassumption
  iintro ⟨HO, HzB, Hslots⟩
  -- the local sort
  iapply (wp_load 𝒱₀ (c : Thread nD τ) none Set.univ (m := xM) (Finset.subset_univ _)) $$ Hx; iintro Hx
  rw [read_x, shapeCast_self, shapeCast_self]
  iapply (wp_put_cur c v0 (E m ρ 0 c))
  isplitl [Hcur]; · iexact Hcur
  iintro Hcur
  ihave HA := (At_intro c (E m ρ 0 c)) $$ [Hcur HatS HatV HtS HtV HcV Hslots HO]
  · isplitl [Hcur]; · iexact Hcur
    isplitr [HO]
    · isplitl [HatS]; · iexact HatS
      isplitl [HatV]; · iexact HatV
      isplitl [HtS]; · iexact HtS
      isplitl [HtV]; · iexact HtV
      isplitl [HcV] <;> iassumption
    iexists _; iexact HO
  rw [wp_bind]
  iapply (wp_exch m ρ K c 0 _ (dev5_eq c) _ _ rfl rfl)
  isplitr; · iexact HR
  isplitr; · iexact Hlev
  isplitl [HA]; · iexact HA
  iintro HA
  rw [wp_bind]
  iapply (wp_local c 1 11)
  isplitl [HA]; · iexact HA
  iintro HA
  rw [wp_bind]
  iapply (wp_exch m ρ K c 1 _ (dev6_eq c) _ _ rfl rfl)
  isplitr; · iexact HR
  isplitr; · iexact Hlev
  isplitl [HA]; · iexact HA
  iintro HA
  rw [wp_bind]
  iapply (wp_exch m ρ K c 2 _ (dev7_eq c) _ _ rfl rfl)
  isplitr; · iexact HR
  isplitr; · iexact Hlev
  isplitl [HA]; · iexact HA
  iintro HA
  rw [wp_bind]
  iapply (wp_local c 3 12)
  isplitl [HA]; · iexact HA
  iintro HA
  rw [wp_bind]
  iapply (wp_exch m ρ K c 3 _ (dev8_eq c) _ _ rfl rfl)
  isplitr; · iexact HR
  isplitr; · iexact Hlev
  isplitl [HA]; · iexact HA
  iintro HA
  rw [wp_bind]
  iapply (wp_exch m ρ K c 4 _ (dev9_eq c) _ _ rfl rfl)
  isplitr; · iexact HR
  isplitr; · iexact Hlev
  isplitl [HA]; · iexact HA
  iintro HA
  rw [wp_bind]
  iapply (wp_exch m ρ K c 5 _ (dev10_eq c) _ _ rfl rfl)
  isplitr; · iexact HR
  isplitr; · iexact Hlev
  isplitl [HA]; · iexact HA
  iintro HA
  rw [wp_bind]
  iapply (wp_local c 6 13)
  isplitl [HA]; · iexact HA
  iintro HA
  rw [wp_bind]
  iapply (wp_exch m ρ K c 6 _ (dev11_eq c) _ _ rfl rfl)
  isplitr; · iexact HR
  isplitr; · iexact Hlev
  isplitl [HA]; · iexact HA
  iintro HA
  rw [wp_bind]
  iapply (wp_exch m ρ K c 7 _ (dev12_eq c) _ _ rfl rfl)
  isplitr; · iexact HR
  isplitr; · iexact Hlev
  isplitl [HA]; · iexact HA
  iintro HA
  rw [wp_bind]
  iapply (wp_exch m ρ K c 8 _ (dev13_eq c) _ _ rfl rfl)
  isplitr; · iexact HR
  isplitr; · iexact Hlev
  isplitl [HA]; · iexact HA
  iintro HA
  rw [wp_bind]
  iapply (wp_exch m ρ K c 9 _ (dev14_eq c) _ _ rfl rfl)
  isplitr; · iexact HR
  isplitr; · iexact Hlev
  isplitl [HA]; · iexact HA
  iintro HA
  rw [wp_bind]
  iapply (wp_local c 10 14)
  isplitl [HA]; · iexact HA
  iintro HA
  ihave HA := (At_exit c _) $$ HA
  icases HA with ⟨Hcur, Hdone, ⟨%W', HO⟩⟩
  unfold put
  simp only [Prog.bind_lift]
  iapply (wp_load 𝒱₀ (c : Thread nD τ) none Set.univ (m := oM) (Finset.subset_univ _)) $$ Hout; iintro Hout
  simp only [Prog.lift]
  iapply (wp_store 𝒱₀ (c : Thread nD τ) none Set.univ (m := oM) (r := whole0) (Mk := Finset.univ) (Finset.subset_univ _)) $$ Hout; iintro Hout
  rw [write_out, wp_ret]; imodintro
  iapply Hk
  unfold bodyPost Φ₁ Dat.owesAt Pipeline.owesWithin
  rw [show (dats m ρ 0 c).owed t0_0.succ = 0 from rfl]
  isplitl [Hcur Hdone HzB]
  · isplitl [Hcur]; · iexists _; iexact Hcur
    isplitl [Hdone] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Sort

end
-- ==== Proof.RunIdeal.lean ====
/-
The launch: the ghost state dealt to the devices, and the run of the whole program.
-/
module

public import proofs.«01_k».proof.Proof.WholeIdeal
public import Idealize.ShloMosaic.Lib.Pipeline.CollectiveSegs

@[expose] public section

noncomputable section

namespace Cert.KernelIdeal.Sort

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  rw [body_eq]
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      isplitl [Hrest]; · iexact Hrest
      iexact Hscr
    isplitl [Ho]; · iexact Ho
    isplitl [Hx] <;> iassumption
  · iintro H; iexact H

/-! ## The launch -/

theorem share_eq (c : Dev nD) (w : Fin cfg0.W) : (dats m ρ 0 c).share w = fullShare := by unfold Dat.share; split <;> rfl

def ringCells : Finset (GSem nD τ sig) := Finset.univ.map ⟨kcell, kcell_injective⟩

/-- The duties of a device's own cells: four of its barrier cell, one of each send and each receive cell. -/
abbrev TI : Type := Fin 4 ⊕ (Fin 10 ⊕ Fin 10)
def tokIx : TI → CI × Fin 4
  | .inl i => (iB, i)
  | .inr (.inl k) => (iS k, 0)
  | .inr (.inr k) => (iR k, 0)
theorem tokIx_injective : Function.Injective tokIx := by
  rintro (i | k | k) (i' | k' | k') h <;> simp_all [tokIx]
def tokOf (cj : Dev nD × TI) : GSem nD τ sig × ℕ × Fin 4 := (kcell (cj.1, (tokIx cj.2).1), 0, (tokIx cj.2).2)
theorem tokOf_injective : Function.Injective (tokOf : Dev nD × TI → GSem nD τ sig × ℕ × Fin 4) := by
  rintro ⟨c, j⟩ ⟨c', j'⟩ h
  have h1 := kcell_injective (congrArg Prod.fst h)
  have h2 : (tokIx j).2 = (tokIx j').2 := congrArg (fun x : GSem nD τ sig × ℕ × Fin 4 => x.2.2) h
  rw [Prod.mk.injEq] at h1
  obtain ⟨hc, hi⟩ := h1
  exact Prod.ext hc (tokIx_injective (Prod.ext hi h2))
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun i : Fin 4 => dutyTok ER (kcell (c, iB)) 0 i)
    ∗ (bigSep Finset.univ fun k : Fin 10 => dutyTok ER (kcell (c, iS k)) 0 0)
    ∗ (bigSep Finset.univ fun k : Fin 10 => dutyTok ER (kcell (c, iR k)) 0 0))

def G (c : Dev nD) : sProp 𝕄 :=
  iprop((bigSep Finset.univ fun k : CI => roundState ER (ringRd m ρ) (kcell (c, k)) 0)
    ∗ (bigSep Finset.univ fun k : CI => iprop(atPos ER (kcell (c, k)) 0 ∅ 0 ∗ reached ER (kcell (c, k)) 0)) ∗ toks c)

def G' (c : Dev nD) : sProp 𝕄 := iprop(∃ K, records m ρ K ∗ linear c)

omit [FloatOps F] in
/-- A family over a device's cells: the barrier's, the send cells', the receive cells'. -/
theorem bigSep_CI (Φ : CI → sProp 𝕄) : bigSep Finset.univ Φ
    = iprop(Φ iB ∗ (bigSep Finset.univ fun k : Fin 10 => Φ (iS k)) ∗ (bigSep Finset.univ fun k : Fin 10 => Φ (iR k))) := by
  rw [bigSep_univ_sum, bigSep_univ_sum, bigSep_univ_of_subsingleton ()]; rfl
omit [FloatOps F] in
theorem bigSep_TI (Φ : TI → sProp 𝕄) : bigSep Finset.univ Φ
    = iprop((bigSep Finset.univ fun i : Fin 4 => Φ (.inl i)) ∗ (bigSep Finset.univ fun k : Fin 10 => Φ (.inr (.inl k)))
      ∗ (bigSep Finset.univ fun k : Fin 10 => Φ (.inr (.inr k)))) := by
  rw [bigSep_univ_sum, bigSep_univ_sum]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TI]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 10 => semVal (kcell (c, iS k)) 0) ∗ (bigSep Finset.univ fun k : Fin 10 => semVal (kcell (c, iR k)) 0)) := by
  unfold Pipeline.ownSems0
  rw [bigSep_univ_sum]; rfl
omit [FloatOps F] in
theorem unscopedSems0_eq (c : Dev nD) : (unscopedSems0 c : sProp 𝕄) = semVal (kcell (c, iB)) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c` and is no position: the tokens of the duties it pays. -/
def payToks (c : Dev nD) : sProp 𝕄 :=
  iprop((bigSep Finset.univ fun i : Fin 4 => dutyTok ER (kcell (bp i c, iB)) 0 i)
    ∗ (bigSep Finset.univ fun k : Fin 10 => dutyTok ER (kcell (c, iS k)) 0 0)
    ∗ (bigSep Finset.univ fun k : Fin 10 => dutyTok ER (kcell (pt k c, iR k)) 0 0))

def bpE (i : Fin 4) : Dev nD ≃ Dev nD := ⟨bp i, bp i, bp_bp i, bp_bp i⟩
def ptE (k : Fin 10) : Dev nD ≃ Dev nD := ⟨pt k, pt k, pt_pt k, pt_pt k⟩

omit [FloatOps F] in
/-- A family over devices and indices, each index's members moved to its partner. -/
theorem around {J : Type} [Fintype J] (e : J → Dev nD ≃ Dev nD) (X : J → Dev nD → sProp 𝕄) :
    (bigSep Finset.univ fun c : Dev nD => bigSep Finset.univ fun j : J => X j c)
      = bigSep Finset.univ fun c : Dev nD => bigSep Finset.univ fun j : J => X j (e j c) := by
  rw [bigSep_univ_comm, bigSep_univ_comm (fun (c : Dev nD) (j : J) => X j (e j c))]
  exact bigSep_congr fun j _ => bigSep_univ_equiv (e j) (X j)

omit [FloatOps F] in
/-- Every duty's token goes to the device that pays it. -/
theorem toks_around : (bigSep Finset.univ fun c : Dev nD => (toks c : sProp 𝕄)) = bigSep Finset.univ fun c : Dev nD => payToks c := by
  unfold toks payToks
  simp only [bigSep_sep']
  rw [around bpE (fun i c => (dutyTok ER (kcell (c, iB)) 0 i : sProp 𝕄)),
    around ptE (fun k c => (dutyTok ER (kcell (c, iR k)) 0 0 : sProp 𝕄))]
  rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) :
    iprop(records m ρ K ∗ (bigSep Finset.univ fun k : CI => atPos ER (kcell (c, k)) 0 ∅ 0) ∗ payToks c) ⊢ G' m ρ c := by
  unfold G' linear payToks
  rw [bigSep_CI]
  iintro ⟨HR, ⟨HB, HS, HV⟩, Ht⟩
  iexists K
  isplitl [HR]; · iexact HR
  isplitl [HB]; · iexact HB
  isplitl [HS]; · iexact HS
  isplitl [HV] <;> iassumption

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (ringRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m ρ) κ (kcell ck) : sProp 𝕄))) $$ HI
  icases HK with ⟨%K, #HI⟩
  ihave Htk := (Entails.of_eq (toks_around (F := F))) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem cred_bt (i : Fin 4) (c : Dev nD) : (Pipeline.launchCred (bt i) c : sProp 𝕄) ⊢ cred (tallyAt (kcell (c, iB)) () 1) :=
  Pipeline.launchCred_tallyAt (.reg barS) (bp i) (bp i) (bp_bp i) (bp_bp i) () 1 c

omit [FloatOps F] in
theorem cred_OR (c : Dev nD) : (Pipeline.launchCred (OR 0) c : sProp 𝕄) ⊢ bigSep Finset.univ fun k : Fin 10 => cred (tallyAt (kcell (c, iR k)) () N) := by
  have h : (OR 0 : Dev nD → CellTallies nD τ sig Unit) = fun d => ∑ k ∈ Finset.univ, (fun (k : Fin 10) (d : Dev nD) => tallyAt (kcell (pt k d, iR k)) () N) k d := by
    funext d; unfold OR
    rw [Finset.filter_true_of_mem fun _ _ => Nat.zero_le _]
  rw [h, Pipeline.launchCred_sum]
  exact bigSep_mono fun k _ => Pipeline.launchCred_tallyAt (.dma (rS k)) (pt k) (pt k) (pt_pt k) (pt_pt k) () N c

omit [FloatOps F] in
theorem creds (c : Dev nD) :
    (Pipeline.launchCred O₀ c : sProp 𝕄) ⊢ iprop(cred (tallyAt (kcell (c, iB)) () 4) ∗ bigSep Finset.univ fun k : Fin 10 => cred (tallyAt (kcell (c, iR k)) () N)) := by
  rw [show (O₀ : Dev nD → CellTallies nD τ sig Unit) = fun d => (fun d => (fun d => (fun d => OR 0 d + bt 3 d) d + bt 2 d) d + bt 1 d) d + bt 0 d from rfl,
    Pipeline.launchCred_add, Pipeline.launchCred_add, Pipeline.launchCred_add, Pipeline.launchCred_add]
  have h4 : (cred (tallyAt (kcell (c, iB)) () 4) : sProp 𝕄) = iprop(((cred (tallyAt (kcell (c, iB)) () 1) ∗ cred (tallyAt (kcell (c, iB)) () 1))
      ∗ cred (tallyAt (kcell (c, iB)) () 1)) ∗ cred (tallyAt (kcell (c, iB)) () 1)) := by
    rw [show (tallyAt (kcell (c, iB)) () 4 : CellTallies nD τ sig Unit) = tallyAt (kcell (c, iB)) () 1 + tallyAt (kcell (c, iB)) () 1
        + tallyAt (kcell (c, iB)) () 1 + tallyAt (kcell (c, iB)) () 1 by rw [tallyAt_add, tallyAt_add, tallyAt_add],
      BI.Entails.antisymm (cred_add _ _).1 (cred_add _ _).2, BI.Entails.antisymm (cred_add _ _).1 (cred_add _ _).2,
      BI.Entails.antisymm (cred_add _ _).1 (cred_add _ _).2]
  rw [h4]
  iintro ⟨⟨⟨⟨HR, H3⟩, H2⟩, H1⟩, H0⟩
  isplitr [HR]
  · isplitl [H3 H2 H1]
    · isplitl [H3 H2]
      · isplitl [H3]
        · iapply (cred_bt (F := F) 3 c); iexact H3
        · iapply (cred_bt (F := F) 2 c); iexact H2
      · iapply (cred_bt (F := F) 1 c); iexact H1
    · iapply (cred_bt (F := F) 0 c); iexact H0
  · iapply (cred_OR (F := F) c); iexact HR

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hc⟩, ⟨%g, Hr⟩⟩
  isplitl [Hs]; · iexact Hs
  isplitl [Hc]
  · iexists f; rw [curPts_eq]; iexact Hc
  · iapply (show ((((c : Thread nD τ).loc cc0_scratch1) ↦{fullShare} g : sProp 𝕄)) ⊢ (bigSep Finset.univ fun k : Fin 10 => slotAny c k) from by
      rw [slots_split]
      refine bigSep_mono fun k _ => ?_
      unfold slotAny
      show (slotPts c k g : sProp 𝕄) ⊢ iprop(∃ f, slotPts c k f)
      iintro H; iexists g; iexact H)
    iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ exOut
  simp only [bigSep_sep']
  iintro ⟨⟨%v, Hc⟩, ⟨Hsl, HzS, HzV⟩, HzB⟩
  isplitl [HzB]; · iexact HzB
  isplitl [HzS HzV]
  · isplitl [HzS] <;> iassumption
  isplitl [Hc]
  · iexists v; rw [← curPts_eq]; iexact Hc
  · iapply (slots_join (F := F) c); iexact Hsl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, for any float values: every weakly fair execution of the program on the
    sixteen devices ends, with each device's result array at the computed contents, its input as it was, and every
    semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array's one block, the whole array, holds after the run what the body left in its staging buffer: the grid
    has one point, so no other point writes the block. -/
theorem finalA_o (c : Dev nD) : (win0_1.blk (0 : Fin 1)).view.read (Elt F) (finalA m ρ c (1 : Fin 2)) = outAt m ρ c :=
  (dats (F := F) m ρ 0 c).read_blk_arrAt_eq_flushed (1 : Fin 2) (fun t t' _ _ h => absurd (Subsingleton.elim (α := Fin 1) t t') h)
    cfg0.N t0_0 (by decide) (by decide)

end Cert.KernelIdeal.Sort

end
-- ==== Proof.Column.lean ====
/-
The kernel's passes as stages of Batcher's bitonic network: the sixteen blocks of a column are one column of `2 ^ 14`
entries, and each compare-exchange pass, whether within the blocks or between two devices, is one stage of the network on it.
-/
module

public import proofs.«01_k».proof.Proof.Pass
public import Idealize.ShloMosaic.Lib.Pipeline.Value
public import Idealize.ShloMosaic.Lib.SortNet.Sorts
public import Idealize.ShloMosaic.PureOps.Ideal
public import Idealize.ShloMosaic.Lib.WordCmp
public import Idealize.ShloMosaic.Lib.Layout
public import Mathlib.Data.Nat.Bitwise

@[expose] public section

noncomputable section

namespace Cert.Bitonic

open Idealize.ShloMosaic Idealize.ShloMosaic.SortNet
open Idealize.ShloMosaic.WordCmp (select_at xori_at xori_ofBool select_ofBool)

/-! ## Words -/

/-- Bit `s` of a small word, by a shift and a mask: the compare with zero says that it is clear. -/
theorem word_clear (u : ArithUnit) (n s : ℕ) (hn : n < 2 ^ 31) (hs : s < 32) :
    IntOp.cmpi .eq (IntOp.andi (IntOp.shrsi u (BitVec.ofNat 32 n) (BitVec.ofNat 32 s)) 1#32) 0#32 = BitVec.ofBool (!n.testBit s) := by
  have h1 : (BitVec.ofNat 32 s).toNat = s := by rw [BitVec.toNat_ofNat, Nat.mod_eq_of_lt (by omega)]
  have h2 : (BitVec.ofNat 32 n).toNat = n := by rw [BitVec.toNat_ofNat, Nat.mod_eq_of_lt (by omega)]
  have hm : (BitVec.ofNat 32 n).msb = false := by rw [BitVec.msb_eq_decide, h2, decide_eq_false]; omega
  unfold IntOp.cmpi IntOp.andi IntOp.shrsi
  rw [if_pos (by omega)]
  congr 1
  show (BitVec.sshiftRight' _ _ &&& 1#32 == 0#32) = !n.testBit s
  have e : (BitVec.sshiftRight' (BitVec.ofNat 32 n) (BitVec.ofNat 32 s) &&& 1#32).toNat = (n.testBit s).toNat := by
    rw [BitVec.toNat_and, BitVec.sshiftRight', h1, BitVec.toNat_sshiftRight_of_msb_false hm, h2, Nat.testBit, Nat.and_comm]
    show 1 &&& n >>> s = _
    rcases Nat.mod_two_eq_zero_or_one (n >>> s) with h | h <;> simp [h]
  cases hb : n.testBit s
  · rw [hb] at e
    exact beq_iff_eq.mpr (BitVec.eq_of_toNat_eq e)
  · rw [hb] at e
    refine beq_eq_false_iff_ne.mpr fun h => ?_
    rw [h] at e
    exact absurd e (by decide)

/-- Bit `j` of a small word, by a mask: its natural number. -/
theorem mask_toNat (n j : ℕ) (hn : n < 2 ^ 32) (hj : j < 32) :
    (BitVec.ofNat 32 n &&& BitVec.ofNat 32 (2 ^ j)).toNat = (n.testBit j).toNat * 2 ^ j := by
  have h2 : 2 ^ j < 2 ^ 32 := Nat.pow_lt_pow_right (by decide) hj
  rw [BitVec.toNat_and, BitVec.toNat_ofNat, BitVec.toNat_ofNat, Nat.mod_eq_of_lt hn, Nat.mod_eq_of_lt h2, Nat.and_two_pow]

/-- The masked word is zero exactly when the bit is clear. -/
theorem mask_zero (n j : ℕ) (hn : n < 2 ^ 32) (hj : j < 32) :
    (BitVec.ofNat 32 n &&& BitVec.ofNat 32 (2 ^ j) == 0#32) = !n.testBit j := by
  have e := mask_toNat n j hn hj
  cases hb : n.testBit j
  · rw [hb] at e
    exact beq_iff_eq.mpr (BitVec.eq_of_toNat_eq (e.trans (Nat.zero_mul _)))
  · rw [hb] at e
    refine beq_eq_false_iff_ne.mpr fun h => ?_
    rw [h] at e
    exact absurd e.symm (by have := Nat.two_pow_pos j; simp)

theorem mask_eq (n j : ℕ) (hn : n < 2 ^ 32) (hj : j < 32) :
    IntOp.cmpi .eq (IntOp.andi (BitVec.ofNat 32 n) (BitVec.ofNat 32 (2 ^ j))) 0#32 = BitVec.ofBool (!n.testBit j) := by
  rw [← mask_zero n j hn hj]; rfl

theorem mask_ne (n j : ℕ) (hn : n < 2 ^ 32) (hj : j < 32) :
    IntOp.cmpi .ne (IntOp.andi (BitVec.ofNat 32 n) (BitVec.ofNat 32 (2 ^ j))) 0#32 = BitVec.ofBool (n.testBit j) := by
  have h := mask_zero n j hn hj
  show BitVec.ofBool (!(BitVec.ofNat 32 n &&& BitVec.ofNat 32 (2 ^ j) == 0#32)) = _
  rw [h, Bool.not_not]

/-! ## One pass at an entry -/

/-- Row `r`, column `l` of a block. -/
abbrev at' (r : Fin 1024) (l : Fin 256) : Blk.Idx := Shape.pair r l

section

variable {F : FTy → Type} [FloatOps F]

/-- A block moved up, at a row from which the distance stays inside. -/
theorem upBy_at (d : ℕ) (h : d < 1024) (v : FVec F Blk .f32) (r r' : Fin 1024) (l : Fin 256) (hr : r'.val = r.val + d) :
    upBy d h v (at' r l) = v (at' r' l) := by
  have hlt : r.val < 1024 - d := by have := r'.isLt; omega
  unfold upBy
  rw [concatenate_pair_apply_left (s₁ := Rows (1024 - d)) (s₂ := Rows d) (0 : Fin 2) _ _ _ (at' r l) rfl (Shape.pair (d := ![1024 - d, 256]) (⟨r.val, hlt⟩ : Fin (1024 - d)) l)
    (fun b => by fin_cases b <;> rfl)]
  refine extractStridedSlice_apply _ _ _ _ _ fun a => ?_
  fin_cases a
  · exact hr.trans (Nat.add_comm _ _)
  · exact (Nat.zero_add _).symm

/-- A block moved down, at a row from which the distance stays inside. -/
theorem downBy_at (d : ℕ) (h : d < 1024) (v : FVec F Blk .f32) (r r' : Fin 1024) (l : Fin 256) (hr : r'.val + d = r.val) :
    downBy d h v (at' r l) = v (at' r' l) := by
  have hlt : r'.val < 1024 - d := by have := r.isLt; omega
  unfold downBy
  rw [concatenate_pair_apply_right (s₁ := Rows d) (s₂ := Rows (1024 - d)) (0 : Fin 2) _ _ _ (at' r l) rfl rfl (Shape.pair (d := ![1024 - d, 256]) (⟨r'.val, hlt⟩ : Fin (1024 - d)) l)
    (fun b hb => by fin_cases b; exacts [absurd rfl hb, rfl]) hr]
  refine extractStridedSlice_apply _ _ _ _ _ fun a => ?_
  fin_cases a
  · exact (Nat.zero_add _).symm
  · exact (Nat.zero_add _).symm

/-- A column of words spread over the block, at an entry. -/
theorem spread_at (x : IVec Idc 1) (r : Fin 1024) (l : Fin 256) :
    broadcastTo Blk (shapeCast Idc x casts_idc) bcast_idc (at' r l) = x (Shape.pair r (0 : Fin 1)) := by
  rw [shapeCast_self]
  refine broadcastTo_apply _ _ _ _ fun a => ?_
  fin_cases a <;> rfl

theorem rowIx_at (r : Fin 1024) : rowIx (Shape.pair r (0 : Fin 1)) = BitVec.ofNat 32 r.val :=
  iota_single_apply .tc Idc 32 (0 : Fin 2) iota_idc _

theorem highBit_at (j : ℕ) (hj : j < 10) (r : Fin 1024) :
    highBit (BitVec.ofNat 32 (2 ^ j)) (Shape.pair r (0 : Fin 1)) = BitVec.ofBool (r.val.testBit j) := by
  rw [← mask_ne r.val j (by have := r.isLt; omega) (by omega), ← rowIx_at]; rfl

theorem ascBit_at (s c : ℕ) (hs : s < 32) (hc : c < 16) (r : Fin 1024) :
    ascBit (BitVec.ofNat 32 s) (BitVec.ofNat 32 c) (Shape.pair r (0 : Fin 1)) = BitVec.ofBool (!(c * 1024 + r.val).testBit s) := by
  have e : BitVec.ofNat 32 (c * 1024 + r.val) = IntOp.addi (Scalar.muli (BitVec.ofNat 32 c) 1024#32) (rowIx (Shape.pair r (0 : Fin 1))) := by
    rw [rowIx_at]
    show _ = BitVec.ofNat 32 c * BitVec.ofNat 32 1024 + BitVec.ofNat 32 r.val
    rw [← BitVec.ofNat_mul, ← BitVec.ofNat_add]
  rw [← word_clear .vector _ s (by have := r.isLt; omega) hs, e]; rfl

/-- A pass within a block at an entry: the lesser or the greater of the entry and the one whose row differs in bit `j`. -/
theorem ce_at (c s j : ℕ) (hc : c < 16) (hs : s < 32) (h : j < 10) (v : FVec F Blk .f32) (r r' : Fin 1024) (l : Fin 256)
    (hr : r'.val = r.val ^^^ 2 ^ j) :
    ce (BitVec.ofNat 32 c) s j h v (at' r l)
      = if (!(c * 1024 + r.val).testBit s) ^^ r.val.testBit j then FloatOps.minimumf (v (at' r l)) (v (at' r' l))
        else FloatOps.maximumf (v (at' r l)) (v (at' r' l)) := by
  have hq : select (broadcastTo Blk (shapeCast Idc (highBit (BitVec.ofNat 32 (2 ^ j))) casts_idc) bcast_idc)
      (downBy (2 ^ j) (two_pow_lt h) v) (upBy (2 ^ j) (two_pow_lt h) v) (at' r l) = v (at' r' l) := by
    rw [select_at, spread_at, highBit_at j h, select_ofBool]
    by_cases hb : r.val &&& 2 ^ j = 0
    · rw [(and_two_pow_eq_zero_iff_testBit _ _).mp hb, if_neg (by decide)]
      exact upBy_at _ _ _ _ _ _ (by rw [hr, xor_two_pow_of_clear r.val j hb])
    · have hs' := partner_val_of_set (p := 10) h r hb
      have ht : r.val.testBit j = true := by
        rw [← Bool.not_eq_false]; exact fun e => hb ((and_two_pow_eq_zero_iff_testBit _ _).mpr e)
      rw [partner_val h] at hs'
      rw [ht, if_pos rfl]
      exact downBy_at _ _ _ _ _ _ (by omega)
  unfold ce
  show Scalar.select _ _ _ = _
  rw [spread_at, xori_at, highBit_at j h, ascBit_at s c hs hc, xori_ofBool, select_ofBool]
  show (if _ then FloatOps.minimumf _ _ else FloatOps.maximumf _ _) = _
  rw [hq]

/-- An exchange between devices at an entry. -/
theorem merge_at (c d t : ℕ) (hc : c < 16) (hd : d < 32) (ht : t < 32) (a b : FVec F Blk .f32) (i : Blk.Idx) :
    merge (BitVec.ofNat 32 c) (BitVec.ofNat 32 (2 ^ d)) (BitVec.ofNat 32 t) a b i
      = if (!c.testBit t) ^^ c.testBit d then FloatOps.minimumf (a i) (b i) else FloatOps.maximumf (a i) (b i) := by
  have h1 := mask_eq c d (by omega) hd
  have h2 := word_clear .scalar c t (by omega) ht
  unfold merge
  show (Scalar.select (IntOp.xori (IntOp.xori (IntOp.cmpi .eq (IntOp.andi (BitVec.ofNat 32 c) (BitVec.ofNat 32 (2 ^ d))) 0#32)
    (IntOp.cmpi .eq (IntOp.andi (IntOp.shrsi .scalar (BitVec.ofNat 32 c) (BitVec.ofNat 32 t)) 1#32) 0#32)) (BitVec.ofBool true)) (minimumf a b) (maximumf a b) : FVec F Blk .f32) i = _
  rw [h1, h2, xori_ofBool, xori_ofBool, select_ofBool]
  cases c.testBit t <;> cases c.testBit d <;> rfl

end

/-! ## The column -/

/-- The direction of stage `s`: the greater entry goes to the earlier position where bit `s` is set. -/
abbrev dir (s : ℕ) (i : Fin (2 ^ 14)) : Bool := decide (i.val &&& 2 ^ s = 0) == false

theorem dir_eq (s : ℕ) (i : Fin (2 ^ 14)) : dir s i = i.val.testBit s := by
  unfold dir
  cases h : i.val.testBit s
  · rw [decide_eq_true ((and_two_pow_eq_zero_iff_testBit _ _).mpr h)]; rfl
  · rw [decide_eq_false fun e => by rw [(and_two_pow_eq_zero_iff_testBit _ _).mp e] at h; exact absurd h (by decide)]; rfl

/-- A stage of the network at a position. -/
theorem stage_at {α : Type} [LinearOrder α] (s j : ℕ) (hj : j < 14) (hs : j < s) (v : Fin (2 ^ 14) → α) (i : Fin (2 ^ 14)) :
    Network.apply (stage 14 j (dir s)) v i
      = if (!i.val.testBit s) ^^ i.val.testBit j then min (v i) (v (partner 14 j i)) else max (v i) (v (partner 14 j i)) := by
  by_cases hb : i.val &&& 2 ^ j = 0
  · rw [(apply_stage hj (dir s) v i hb).1, dir_eq, (and_two_pow_eq_zero_iff_testBit _ _).mp hb]
    cases i.val.testBit s <;> rfl
  · have h := (apply_stage hj (dir s) v (partner 14 j i) (partner_and_of_set hj i hb)).2
    have ht : i.val.testBit j = true := by
      rw [← Bool.not_eq_false]; exact fun e => hb ((and_two_pow_eq_zero_iff_testBit _ _).mpr e)
    have hp : (partner 14 j i).val.testBit s = i.val.testBit s := by
      rw [partner_val hj, Nat.testBit_xor, Nat.testBit_two_pow, decide_eq_false (by omega), Bool.xor_false]
    rw [partner_partner hj, dir_eq, hp] at h
    rw [h, ht, min_comm (v i), max_comm (v i)]
    cases i.val.testBit s <;> rfl

/-- Column `l` of the sixteen blocks, top to bottom. -/
def col (w : Fin 16 → FVec Ideal Blk .f32) (l : Fin 256) : Fin (2 ^ 14) → EReal := fun i =>
  w ⟨i.val / 1024, by have : i.val < 16384 := i.isLt; omega⟩ (at' ⟨i.val % 1024, Nat.mod_lt _ (by decide)⟩ l)

/-- A pass within the blocks is a stage of the network on every column. -/
theorem col_ce (s j : ℕ) (hs : s < 32) (hjs : j < s) (hj : j < 10) (w : Fin 16 → FVec Ideal Blk .f32) (l : Fin 256) :
    col (fun c => ce (BitVec.ofNat 32 c.val) s j hj (w c)) l = Network.apply (stage 14 j (dir s)) (col w l) := by
  funext i
  have hi : i.val < 16384 := i.isLt
  have hp : (partner 14 j i).val = i.val ^^^ 2 ^ j := partner_val (by omega) i
  have hd : (partner 14 j i).val / 1024 = i.val / 1024 := by
    rw [hp, show 1024 = 2 ^ 10 from rfl, Nat.xor_div_two_pow, Nat.div_eq_of_lt (Nat.pow_lt_pow_right (by decide) hj : 2 ^ j < 2 ^ 10),
      Nat.xor_zero]
  have hm : (partner 14 j i).val % 1024 = (i.val % 1024) ^^^ 2 ^ j := by
    rw [hp, show 1024 = 2 ^ 10 from rfl, Nat.xor_mod_two_pow, Nat.mod_eq_of_lt (Nat.pow_lt_pow_right (by decide) hj : 2 ^ j < 2 ^ 10)]
  have hb : (i.val % 1024).testBit j = i.val.testBit j := by
    rw [show 1024 = 2 ^ 10 from rfl, Nat.testBit_mod_two_pow, decide_eq_true hj, Bool.true_and]
  rw [stage_at s j (by omega) hjs]
  unfold col
  refine (ce_at (i.val / 1024) s j (by omega) hs hj _ ⟨i.val % 1024, Nat.mod_lt _ (by decide)⟩
    ⟨(partner 14 j i).val % 1024, Nat.mod_lt _ (by decide)⟩ l hm).trans ?_
  rw [Nat.div_add_mod' i.val 1024]
  simp only [hb, hd]
  rfl

/-- An exchange between the devices is a stage of the network on every column. -/
theorem col_merge (d t : ℕ) (hd : d < 4) (ht : d < t) (ht' : t < 32) (p : Fin 16 → Fin 16) (hp : ∀ c, (p c).val = c.val ^^^ 2 ^ d)
    (w : Fin 16 → FVec Ideal Blk .f32) (l : Fin 256) :
    col (fun c => merge (BitVec.ofNat 32 c.val) (BitVec.ofNat 32 (2 ^ d)) (BitVec.ofNat 32 t) (w c) (w (p c))) l
      = Network.apply (stage 14 (10 + d) (dir (10 + t))) (col w l) := by
  funext i
  have hi : i.val < 16384 := i.isLt
  have hq : (partner 14 (10 + d) i).val = i.val ^^^ 2 ^ (10 + d) := partner_val (by omega) i
  have hdv : (partner 14 (10 + d) i).val / 1024 = (i.val / 1024) ^^^ 2 ^ d := by
    rw [hq, show 1024 = 2 ^ 10 from rfl, Nat.xor_div_two_pow, Nat.pow_add, Nat.mul_div_cancel_left _ (by decide)]
  have hm : (partner 14 (10 + d) i).val % 1024 = i.val % 1024 := by
    rw [hq, show 1024 = 2 ^ 10 from rfl, Nat.xor_mod_two_pow, Nat.pow_add, Nat.mul_mod_right, Nat.xor_zero]
  have hb (k : ℕ) : (i.val / 1024).testBit k = i.val.testBit (10 + k) := by
    rw [show 1024 = 2 ^ 10 from rfl, Nat.testBit_div_two_pow, Nat.add_comm]
  have hpp : p ⟨i.val / 1024, by omega⟩ = ⟨(partner 14 (10 + d) i).val / 1024, by
      have : (partner 14 (10 + d) i).val < 16384 := (partner 14 (10 + d) i).isLt; omega⟩ := Fin.ext ((hp _).trans hdv.symm)
  rw [stage_at (10 + t) (10 + d) (by omega) (by omega)]
  unfold col
  refine (merge_at (i.val / 1024) d t (by omega) (by omega) ht' _ _ _).trans ?_
  rw [hpp, hb, hb]
  simp only [hm]
  rfl

/-! ## The stages -/

/-- The passes at distances `2 ^ (n - 1)`, …, `1` of stage `s`, as a network. -/
def tail (s n : ℕ) : Network (2 ^ 14) := (List.range n).reverse.flatMap fun j => stage 14 j (dir s)

theorem tail_succ (s n : ℕ) : tail s (n + 1) = stage 14 n (dir s) ++ tail s n := by
  unfold tail
  rw [List.range_succ, List.reverse_append, List.flatMap_append]
  simp

/-- A level of the sort is its stages in order. -/
theorem levelNet_eq (n : ℕ) : levelNet 14 false n = tail (n + 1) (n + 1) := rfl

theorem col_passes (s : ℕ) (hs : s < 32) (l : Fin 256) : ∀ (n : ℕ) (hn : n ≤ 10) (_ : n ≤ s) (w : Fin 16 → FVec Ideal Blk .f32),
    col (fun c => passes (BitVec.ofNat 32 c.val) s n hn (w c)) l = Network.apply (tail s n) (col w l)
  | 0, _, _, w => rfl
  | n + 1, hn, hns, w => by
    rw [tail_succ, Network.apply_append, ← col_ce s n hs hns hn w l]
    exact col_passes s hs l n (Nat.le_of_succ_le hn) (Nat.le_of_succ_le hns) fun c => ce (BitVec.ofNat 32 c.val) s n hn (w c)

theorem col_stages (l : Fin 256) (w : Fin 16 → FVec Ideal Blk .f32) : ∀ (n : ℕ) (hn : n ≤ 10),
    col (fun c => stages (BitVec.ofNat 32 c.val) n hn (w c)) l = Network.apply (levelsNet 14 false n) (col w l)
  | 0, _ => rfl
  | n + 1, hn => by
    rw [levelsNet_succ, Network.apply_append, levelNet_eq, ← col_stages l w n (Nat.le_of_succ_le hn)]
    exact col_passes (n + 1) (by omega) l (n + 1) hn (le_refl _) _

end Cert.Bitonic

end
-- ==== Proof.SortIdeal.lean ====
/-
The kernel's blocks are the blocks of the sorted columns: its exchanges and passes in order are Batcher's bitonic sort of
every column of the whole array, and the reference's stable sort of the same column has the same result.
-/
module

public import proofs.«01_k».proof.Proof.CellsIdeal
public import proofs.«01_k».proof.Proof.Column
public import proofs.«01_k».proof.Proof.Gen.ReferenceIdeal
public import Idealize.ShloMosaic.Lib.SortFacts
public import Idealize.ShloMosaic.PureOps.Ideal.Laws
public import Idealize.ShloMosaic.Lib.SortNet.HostSort
public import Mathlib.Data.List.OfFn

@[expose] public section

noncomputable section

namespace Cert.KernelIdeal.Sort

open Cert.KernelIdeal Cert.KernelIdeal.Gen Cert.Bitonic
open Idealize.ShloMosaic Idealize.ShloMosaic.SortNet

/-! ## The kernel's side -/

/-- A device's logical number is its number. -/
theorem myW_eq (c : Dev nD) : myW c = BitVec.ofNat 32 c.val := by revert c; decide

/-- The stage exchange `k` belongs to, counted from the first that crosses devices. -/
def tt : Fin 10 → ℕ := ![1, 2, 2, 3, 3, 3, 4, 4, 4, 4]

theorem dK_eq (k : Fin 10) : dK k = BitVec.ofNat 32 (2 ^ (pidx k).val) := by revert k; decide
theorem tK_eq (k : Fin 10) : tK k = BitVec.ofNat 32 (tt k) := by revert k; decide
theorem pidx_lt (k : Fin 10) : (pidx k).val < tt k := by revert k; decide
theorem tt_lt (k : Fin 10) : tt k < 32 := by revert k; decide

/-- Exchange `k` is one stage of the network on every column. -/
theorem col_mer (k : Fin 10) (w : Blks Ideal) (l : Fin 256) :
    col (mer k w) l = Network.apply (stage 14 (10 + (pidx k).val) (dir (10 + tt k))) (col w l) := by
  have h : mer k w = fun c => merge (BitVec.ofNat 32 c.val) (BitVec.ofNat 32 (2 ^ (pidx k).val)) (BitVec.ofNat 32 (tt k)) (w c) (w (pt k c)) :=
    funext fun c => by unfold mer; rw [myW_eq, dK_eq, tK_eq]
  rw [h]
  exact col_merge (pidx k).val (tt k) (pidx k).isLt (pidx_lt k) (tt_lt k) (pt k) (fun _ => rfl) w l

/-- The local passes of stage `s` are the network's on every column. -/
theorem col_loc (s : ℕ) (hs : s < 32) (hs' : 10 ≤ s) (w : Blks Ideal) (l : Fin 256) :
    col (loc s w) l = Network.apply (tail s 10) (col w l) := by
  have h : loc s w = fun c => passes (BitVec.ofNat 32 c.val) s 10 (le_refl _) (w c) := funext fun c => by unfold loc; rw [myW_eq]
  rw [h]
  exact col_passes s hs l 10 (le_refl _) hs' w

/-- The local sort is the network's first ten levels on every column. -/
theorem col_ini (x : Blks Ideal) (l : Fin 256) : col (ini x) l = Network.apply (levelsNet 14 false 10) (col x l) := by
  have h : ini x = fun c => stages (BitVec.ofNat 32 c.val) 10 (le_refl _) (x c) := funext fun c => by unfold ini; rw [myW_eq]
  rw [h]
  exact col_stages l x 10 (le_refl _)

/-- One exchange and what follows it locally. -/
theorem held_succ (x : Blks Ideal) (n : ℕ) (h : n < 10) : held x (n + 1) = post n (mer ⟨n, h⟩ (held x n)) := dif_pos h

/-- What the kernel computes of a column is the bitonic sort of it. -/
theorem col_held (x : Blks Ideal) (l : Fin 256) : col (held x 10) l = Network.apply (sortNet 14 false) (col x l) := by
  rw [show held x 10 = loc 14 (mer 9 (held x 9)) from held_succ x 9 (by decide), show held x 9 = mer 8 (held x 8) from held_succ x 8 (by decide),
    show held x 8 = mer 7 (held x 7) from held_succ x 7 (by decide), show held x 7 = mer 6 (held x 6) from held_succ x 6 (by decide),
    show held x 6 = loc 13 (mer 5 (held x 5)) from held_succ x 5 (by decide), show held x 5 = mer 4 (held x 4) from held_succ x 4 (by decide),
    show held x 4 = mer 3 (held x 3) from held_succ x 3 (by decide), show held x 3 = loc 12 (mer 2 (held x 2)) from held_succ x 2 (by decide),
    show held x 2 = mer 1 (held x 1) from held_succ x 1 (by decide), show held x 1 = loc 11 (mer 0 (held x 0)) from held_succ x 0 (by decide),
    show held x 0 = ini x from rfl]
  rw [sortNet_eq_levelsNet, levelsNet_succ, levelsNet_succ, levelsNet_succ, levelsNet_succ]
  simp only [levelNet_eq, Network.apply_append]
  rw [tail_succ 11 10, tail_succ 12 11, tail_succ 12 10, tail_succ 13 12, tail_succ 13 11, tail_succ 13 10,
    tail_succ 14 13, tail_succ 14 12, tail_succ 14 11, tail_succ 14 10]
  simp only [Network.apply_append]
  rw [col_loc 14 (by decide) (by decide), col_mer 9, col_mer 8, col_mer 7, col_mer 6, col_loc 13 (by decide) (by decide), col_mer 5,
    col_mer 4, col_mer 3, col_loc 12 (by decide) (by decide), col_mer 2, col_mer 1, col_loc 11 (by decide) (by decide), col_mer 0, col_ini]
  rfl

/-! ## The reference's side -/

/-- The reference's comparator puts an extended real before another if it is smaller. -/
theorem comparator_eq (a b : Ideal .f32) :
    (Cert.ReferenceIdeal.comparator_f32_d0 (F := Ideal) a b == 1#1) = decide ((a : EReal) < b) := by
  have hn (y : Ideal .f32) : Scalar.select (FloatOps.cmpf .oeq y (FloatOps.ofBits .f32 0x00000000#32)) (FloatOps.ofBits .f32 0x00000000#32) y = y := by
    rw [show (FloatOps.ofBits .f32 0x00000000#32 : Ideal .f32) = (0 : EReal) from Ideal.ofBits_zero_f32]
    show (if BitVec.ofBool (decide ((y : EReal) = 0)) = 1#1 then (0 : EReal) else y) = y
    by_cases h : (y : EReal) = 0
    · rw [h]; exact ite_self _
    · rw [decide_eq_false h]; rfl
  have hu (y z w : Ideal .f32) : Scalar.select (FloatOps.cmpf .une y y) z w = w := by
    show (if BitVec.ofBool (decide ((y : EReal) ≠ y)) = 1#1 then z else w) = w
    rw [decide_eq_false fun h => h rfl]; rfl
  unfold Cert.ReferenceIdeal.comparator_f32_d0
  dsimp only
  rw [hn, hn, hu, hu]
  show (BitVec.ofBool (decide ((a : EReal) < b)) == 1#1) = _
  cases decide ((a : EReal) < b) <;> rfl

/-- A sort along the rows of a matrix, at an entry: it reads the entry's column at the sorting position. -/
theorem sort_rows {n k : ℕ} {α : Type} (cmp : α → α → BitVec 1) (x : (⟨2, ![n, k]⟩ : Shape).Idx → α) (i : Fin n) (l : Fin k) :
    Host.sort ⟨2, ![n, k]⟩ 0 cmp x (Shape.pair (d := ![n, k]) i l)
      = x (Shape.pair (d := ![n, k]) (sortedFrom (fun a b => cmp (x (Shape.pair (d := ![n, k]) a l)) (x (Shape.pair (d := ![n, k]) b l)) == 1#1) i) l) := by
  have hal (a : Fin n) : Shape.Idx.along (Shape.pair (d := ![n, k]) i l) (0 : Fin 2) a = Shape.pair (d := ![n, k]) a l := by
    funext b
    fin_cases b <;> rfl
  have h : Host.sort ⟨2, ![n, k]⟩ 0 cmp x (Shape.pair (d := ![n, k]) i l)
      = x (Shape.Idx.along (Shape.pair (d := ![n, k]) i l) (0 : Fin 2)
        (sortedFrom (fun a b : Fin n => cmp (x (Shape.Idx.along (Shape.pair (d := ![n, k]) i l) (0 : Fin 2) a))
          (x (Shape.Idx.along (Shape.pair (d := ![n, k]) i l) (0 : Fin 2) b)) == 1#1) i)) := rfl
  have e : (fun a b : Fin n => cmp (x (Shape.Idx.along (Shape.pair (d := ![n, k]) i l) (0 : Fin 2) a))
        (x (Shape.Idx.along (Shape.pair (d := ![n, k]) i l) (0 : Fin 2) b)) == 1#1)
      = fun a b => cmp (x (Shape.pair (d := ![n, k]) a l)) (x (Shape.pair (d := ![n, k]) b l)) == 1#1 :=
    funext fun a => funext fun b => congrArg₂ (fun u v => cmp (x u) (x v) == 1#1) (hal a) (hal b)
  exact h.trans ((congrArg x (hal _)).trans (congrArg (fun R => x (Shape.pair (d := ![n, k]) (sortedFrom R i) l)) e))

/-- The whole array's shape. -/
abbrev Whole : Shape := ⟨2, ![16384, 256]⟩

/-- Column `l` of the whole array. -/
def wcol (x : Whole.Idx → EReal) (l : Fin 256) : Fin (2 ^ 14) → EReal := fun i => x (Shape.pair (d := ![16384, 256]) i l)

/-- The reference's sort of the whole array. -/
abbrev refSort (x : Whole.Idx → EReal) : Whole.Idx → EReal :=
  Host.sort Cert.ReferenceIdeal.S16384x256 0 (Cert.ReferenceIdeal.comparator_f32_d0 (F := Ideal)) x

/-- The order the reference's sort takes column `l`'s positions in: by the entries there. -/
def before (x : Whole.Idx → EReal) (l : Fin 256) (k k' : Fin (2 ^ 14)) : Bool := decide (wcol x l k < wcol x l k')

/-- A column of the sorted array is the column read through the sorting positions. -/
theorem wcol_refSort (x : Whole.Idx → EReal) (l : Fin 256) : wcol (refSort x) l = wcol x l ∘ sortedFrom (before x l) := by
  funext i
  refine (sort_rows (n := 16384) (k := 256) _ x i l).trans ?_
  simp only [comparator_eq]
  rfl

/-- A column of the sorted array ascends. -/
theorem wcol_refSort_monotone (x : Whole.Idx → EReal) (l : Fin 256) : Monotone (wcol (refSort x) l) := by
  rw [wcol_refSort]
  intro i j hij
  rcases hij.eq_or_lt with rfl | h
  · exact le_refl _
  · have hs := sortedFrom_noInversion (before x l) (before x l)
      (fun a b hab => decide_eq_false (not_lt.mpr (of_decide_eq_true hab).le)) (fun _ _ h => h)
      (fun a b c hab hbc => decide_eq_false (not_lt.mpr
        ((not_lt.mp (of_decide_eq_false hbc)).trans (not_lt.mp (of_decide_eq_false hab))))) i j h
    exact not_lt.mp (of_decide_eq_false hs)

/-! ## The two agree -/

/-- Two ascending rearrangements of one vector are the same vector. -/
theorem sorted_unique {n : ℕ} {α : Type} [LinearOrder α] (f : Fin n → α) (σ : Equiv.Perm (Fin n)) (π : Fin n → Fin n)
    (hb : Function.Bijective π) (hσ : Monotone (f ∘ σ)) (hπ : Monotone (f ∘ π)) : f ∘ σ = f ∘ π := by
  have asc (g : Fin n → α) (h : Monotone g) : (List.ofFn g).Pairwise (· ≤ ·) := List.pairwise_ofFn.mpr fun _ _ hij => h hij.le
  exact List.ofFn_injective (List.Perm.eq_of_pairwise (fun _ _ _ _ h h' => le_antisymm h h') (asc _ hσ) (asc _ hπ)
    ((Equiv.Perm.ofFn_comp_perm σ f).trans (Equiv.Perm.ofFn_comp_perm (Equiv.ofBijective π hb) f).symm))

/-- The blocks of a whole array. -/
abbrev blocks (x : Whole.Idx → EReal) : Blks Ideal := fun c => Layout.block ⟨2, ![1024, 256]⟩ ⟨2, ![16384, 256]⟩ 0 16 c x

theorem block_at (x : Whole.Idx → EReal) (c : Fin 16) (r : Fin 1024) (l : Fin 256) (i : Fin (2 ^ 14)) (hi : i.val = c.val * 1024 + r.val) :
    blocks x c (at' r l) = wcol x l i := by
  show x _ = x _
  congr 1
  funext b
  fin_cases b
  · exact Fin.ext hi.symm
  · rfl

/-- A column of the blocks is the whole array's column. -/
theorem col_blocks (x : Whole.Idx → EReal) (l : Fin 256) : col (blocks x) l = wcol x l := by
  funext i
  have hi : i.val < 16384 := i.isLt
  exact block_at x ⟨i.val / 1024, by omega⟩ ⟨i.val % 1024, Nat.mod_lt _ (by decide)⟩ l i (Nat.div_add_mod' i.val 1024).symm

/-- What the kernel computes of a column is the reference's sort of it: both ascend, and both rearrange the column. -/
theorem col_held_eq (x : Whole.Idx → EReal) (l : Fin 256) : col (held (blocks x) 10) l = wcol (refSort x) l := by
  have hm : Monotone (col (held (blocks x) 10) l) := by rw [col_held]; exact sortNet_apply_monotone 14 _
  obtain ⟨σ, hσ⟩ := Network.exists_perm (sortNet 14 false) (col (blocks x) l)
  rw [← col_held, col_blocks] at hσ
  have hb := wcol_refSort_monotone x l
  rw [wcol_refSort] at hb ⊢
  rw [hσ] at hm ⊢
  exact sorted_unique _ σ _ ⟨sortedFrom_injective _, sortedFrom_surjective _⟩ hm hb

/-- The kernel's result on device `c` is block `c` of the reference's. -/
theorem held_blocks (x : Whole.Idx → EReal) (c : Dev nD) : held (blocks x) 10 c = blocks (refSort x) c := by
  funext i
  obtain ⟨r, l, rfl⟩ : ∃ (r : Fin 1024) (l : Fin 256), at' r l = i := ⟨i 0, i 1, Shape.pair_eta i⟩
  have hr : r.val < 1024 := r.isLt
  have hc : c.val < 16 := c.isLt
  have hlt : c.val * 1024 + r.val < 2 ^ 14 := by show _ < 16384; omega
  rw [block_at (refSort x) c r l ⟨c.val * 1024 + r.val, hlt⟩ rfl, ← col_held_eq]
  unfold col
  have h1 : (⟨(c.val * 1024 + r.val) / 1024, by omega⟩ : Fin 16) = c := Fin.ext (by show (c.val * 1024 + r.val) / 1024 = c.val; omega)
  have h2 : (⟨(c.val * 1024 + r.val) % 1024, Nat.mod_lt _ (by decide)⟩ : Fin 1024) = r :=
    Fin.ext (by show (c.val * 1024 + r.val) % 1024 = r.val; omega)
  rw [h1, h2]

end Cert.KernelIdeal.Sort

end
-- ==== Proof.Ref.lean ====
/-
The run of the reference: one sort of the whole array along its rows, on one device.
-/
module

public import proofs.«01_k».proof.Proof.Gen.ReferenceIdeal
public import Idealize.ShloMosaic.Lib.StableHlo.Run
public import Idealize.ShloMosaic.Adequacy

@[expose] public section

noncomputable section

namespace Cert.ReferenceIdeal.Sort

open Cert.ReferenceIdeal Cert.ReferenceIdeal.Gen
open Idealize.ShloMosaic Idealize.ShloMosaic.TcCoe Idealize.ShloMosaic.StableHlo Idealize.SL.Sem

variable {F : FTy → Type} [FloatOps F]

/-- The reference's one operation. -/
abbrev ops : List (HloOp τ sig (Elt F)) :=
  [unary main_arg0 main_v0 fun x => Host.sort S16384x256 0 (comparator_f32_d0 (F := F)) x]

/-- The program is that operation. -/
theorem main_ops (c : Dev nD) : main (F := F) c = seq ops := rfl

/-- After it the result's buffer holds the sorted array, -/
theorem ops_out (V : Valuation τ sig (Elt F)) :
    after ops V (main_v0 : DevRef τ sig) = Host.sort S16384x256 0 (comparator_f32_d0 (F := F)) (V (main_arg0 : DevRef τ sig)) := by
  after_results

/-- and the argument's what it held. -/
theorem ops_arg (V : Valuation τ sig (Elt F)) : after ops V (main_arg0 : DevRef τ sig) = V (main_arg0 : DevRef τ sig) := by
  after_results

theorem no_scopedRef : (Finset.univ.filter fun b : Ref sig .tc => b.isScoped) = ∅ := by decide
theorem no_scopedSem : (Finset.univ.filter fun sm : SemLoc sig => sm.isScoped .tc) = ∅ := by decide

/-- From any memory with every semaphore at zero, for any float values: every weakly fair execution of the reference ends,
    with the result's buffer at the sorted argument, the argument as it was, and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v0)
          = Host.sort S16384x256 0 (comparator_f32_d0 (F := F)) (m ((c.tc : Thread nD τ).loc main_arg0))
        ∧ r.2.mem ((c.tc : Thread nD τ).loc main_arg0) = m ((c.tc : Thread nD τ).loc main_arg0) :=
  (θ_run defs _ _).mono (fun _ h c => ⟨(h c main_v0).trans (ops_out _), (h c main_arg0).trans (ops_arg _)⟩)
    (run_seq no_scopedRef no_scopedSem defs main (fun _ => ops) main_ops (fun _ => (List.forall_cons ..).mpr ⟨unary_bufs_sub .., trivial⟩) m ρ)

end Cert.ReferenceIdeal.Sort

end
-- ==== Proof.lean ====
/-
The claims of the certificate: the program as printed and the idealized one run and leave their argument as it was
(`frame_k`, `frame_i`), so does the reference (`frame_r`), and at the ideal instance each device's result is its block of
the reference's sorted array (`algebraic`).
-/
module

public import proofs.«01_k».proof.Defs
public import proofs.«01_k».proof.Proof.Run
public import proofs.«01_k».proof.Proof.RunIdeal
public import proofs.«01_k».proof.Proof.SortIdeal
public import proofs.«01_k».proof.Proof.Ref
public import Idealize.ShloMosaic.Adequacy
public import Idealize.ShloMosaic.Init

@[expose] public section

noncomputable section

namespace Cert.Proof

open Idealize.ShloMosaic Idealize.SL.Sem

/-- The program runs, leaves its argument as it was, and ends with every semaphore at zero. -/
theorem frame_k : Cert.quiescent_Kernel (hKernel := Cert.Kernel.Gen.facts) := by
  intro m ρ _
  exact (θ_run _ _ _).mono (fun _ h => ⟨fun c => (h.1 c (0 : Fin 2)).trans (Cert.Kernel.Sort.finalA_x m ρ c), h.2⟩)
    (Cert.Kernel.Sort.run_main (F := Bits) m ρ)

/-- So does the idealized program. -/
theorem frame_i : Cert.quiescent_KernelIdeal (hKernelIdeal := Cert.KernelIdeal.Gen.facts) := by
  intro m ρ _
  exact (θ_run _ _ _).mono (fun _ h => ⟨fun c => (h.1 c (0 : Fin 2)).trans (Cert.KernelIdeal.Sort.finalA_x m ρ c), h.2⟩)
    (Cert.KernelIdeal.Sort.run_main (F := Ideal) m ρ)

/-- So does the reference, which has no semaphore. -/
theorem frame_r : Cert.quiescent_ReferenceIdeal (hReferenceIdeal := Cert.ReferenceIdeal.Gen.facts) := by
  intro m ρ _
  exact (θ_run _ _ _).mono (fun r h => ⟨fun c => (h c).2, Idealize.ShloMosaic.sem_eq_zero_of_no_sems (by decide) r.2⟩)
    (Cert.ReferenceIdeal.Sort.run_main (F := Ideal) m ρ)

section
open Cert.KernelIdeal Cert.KernelIdeal.Gen Cert.KernelIdeal.Sort

/-- After the run a device's result array is what the kernel computes from the devices' argument arrays. -/
theorem result_eq (m : (ℓ : Loc nD τ sig) → Buf (Elt Ideal) ℓ) (ρ : Dev nD → PrngReg) (x : Whole.Idx → EReal)
    (hx : ∀ c : Dev nD, m ((c.tc : Thread nD τ).loc main_arg0) = blocks x c) (c : Dev nD) :
    finalA m ρ c (1 : Fin 2) = blocks (refSort x) c := by
  have hz1 : (fun a => (win0_1.index (0 : Fin 1)) a * main_v1.ty.shape.size a) = fun _ => 0 :=
    funext fun a => by fin_cases a <;> decide
  have hr1 := fun f => Memref.read_access_unit_zero (Elt Ideal) main_v1 hz1 (fun a => by fin_cases a <;> decide) f
  have hz0 : (fun a => (win0_0.index (0 : Fin 1)) a * main_arg0.ty.shape.size a) = fun _ => 0 :=
    funext fun a => by fin_cases a <;> decide
  have hr0 := fun f => Memref.read_access_unit_zero (Elt Ideal) main_arg0 hz0 (fun a => by fin_cases a <;> decide) f
  have he : (fun d => xstg m ρ d) = blocks x := funext fun d => (hr0 _).trans (hx d)
  have ho := (hr1 _).symm.trans (finalA_o m ρ c)
  refine ho.trans ?_
  show held (fun d => xstg m ρ d) 10 c = _
  rw [he, held_blocks]

end

/-- At the ideal instance the idealized program's result is, device by device, its block of the reference's. -/
theorem algebraic : Cert.algebraic_KernelIdeal_ReferenceIdeal (hKernelIdeal := Cert.KernelIdeal.Gen.facts)
    (hReferenceIdeal := Cert.ReferenceIdeal.Gen.facts) := by
  intro m ρ m' ρ' _ hx
  refine ⟨Cert.KernelIdeal.Sort.refSort
    (m' (((0 : Dev Cert.ReferenceIdeal.nD).tc : Thread _ Cert.ReferenceIdeal.τ).loc Cert.ReferenceIdeal.main_arg0)), ?_, ?_⟩
  · exact (θ_run _ _ _).mono (fun _ h c => ⟨(h.1 c (1 : Fin 2)).trans (result_eq m ρ _ hx c),
      (h.1 c (0 : Fin 2)).trans (Cert.KernelIdeal.Sort.finalA_x m ρ c)⟩) (Cert.KernelIdeal.Sort.run_main (F := Ideal) m ρ)
  · exact (θ_run _ _ _).mono (fun _ h => h 0) (Cert.ReferenceIdeal.Sort.run_main (F := Ideal) m' ρ')

theorem claim : Cert.Claim :=
  ⟨Cert.Kernel.Gen.facts, Cert.KernelIdeal.Gen.facts, Cert.ReferenceIdeal.Gen.facts, frame_k, frame_i, frame_r, trivial, algebraic⟩

end Cert.Proof

end
